-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_UnguardedIdeal (m : (ℓ : Loc Cert.UnguardedIdeal.nD Cert.UnguardedIdeal.τ Cert.UnguardedIdeal.sig) → Buf (Elt Ideal) ℓ) : Prop :=
  True

def Pre_UnguardedIdeal_as_drawn [hPre_as_drawn : Cert.Pre_as_drawn.Facts] (m : (ℓ : Loc Cert.UnguardedIdeal.nD Cert.UnguardedIdeal.τ Cert.UnguardedIdeal.sig) → Buf (Elt Ideal) ℓ) : Prop :=
  ∀ c : Dev Cert.UnguardedIdeal.nD,
    (Cert.Pre_as_drawn.fn (F := Ideal) (m ((c.tc : Thread Cert.UnguardedIdeal.nD Cert.UnguardedIdeal.τ).loc Cert.UnguardedIdeal.main_arg0)) (m ((c.tc : Thread Cert.UnguardedIdeal.nD Cert.UnguardedIdeal.τ).loc Cert.UnguardedIdeal.main_arg1)) (m ((c.tc : Thread Cert.UnguardedIdeal.nD Cert.UnguardedIdeal.τ).loc Cert.UnguardedIdeal.main_arg2))).1 = (fun _ => 1#1)
    ∧ (Cert.Pre_as_drawn.fn (F := Ideal) (m ((c.tc : Thread Cert.UnguardedIdeal.nD Cert.UnguardedIdeal.τ).loc Cert.UnguardedIdeal.main_arg0)) (m ((c.tc : Thread Cert.UnguardedIdeal.nD Cert.UnguardedIdeal.τ).loc Cert.UnguardedIdeal.main_arg1)) (m ((c.tc : Thread Cert.UnguardedIdeal.nD Cert.UnguardedIdeal.τ).loc Cert.UnguardedIdeal.main_arg2))).2.1 = (fun _ => 1#1)
    ∧ (Cert.Pre_as_drawn.fn (F := Ideal) (m ((c.tc : Thread Cert.UnguardedIdeal.nD Cert.UnguardedIdeal.τ).loc Cert.UnguardedIdeal.main_arg0)) (m ((c.tc : Thread Cert.UnguardedIdeal.nD Cert.UnguardedIdeal.τ).loc Cert.UnguardedIdeal.main_arg1)) (m ((c.tc : Thread Cert.UnguardedIdeal.nD Cert.UnguardedIdeal.τ).loc Cert.UnguardedIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UnguardedIdeal [hUnguardedIdeal : Cert.UnguardedIdeal.Facts] : Prop :=
  ∀ (m : (ℓ : Loc Cert.UnguardedIdeal.nD Cert.UnguardedIdeal.τ Cert.UnguardedIdeal.sig) → Buf (Elt Ideal) ℓ) (g : Dev Cert.UnguardedIdeal.nD → PrngReg), Pre_UnguardedIdeal m →
    θ_run (Cert.UnguardedIdeal.defs (F := Ideal)) (onTc (τ := Cert.UnguardedIdeal.τ) (Cert.UnguardedIdeal.main (F := Ideal))) ⟨m, fun _ => 0, g⟩ (fun r => (∀ c : Dev Cert.UnguardedIdeal.nD,
      r.2.mem ((c.tc : Thread Cert.UnguardedIdeal.nD Cert.UnguardedIdeal.τ).loc Cert.UnguardedIdeal.main_arg0) = m ((c.tc : Thread Cert.UnguardedIdeal.nD Cert.UnguardedIdeal.τ).loc Cert.UnguardedIdeal.main_arg0)
      ∧ r.2.mem ((c.tc : Thread Cert.UnguardedIdeal.nD Cert.UnguardedIdeal.τ).loc Cert.UnguardedIdeal.main_arg1) = m ((c.tc : Thread Cert.UnguardedIdeal.nD Cert.UnguardedIdeal.τ).loc Cert.UnguardedIdeal.main_arg1)
      ∧ r.2.mem ((c.tc : Thread Cert.UnguardedIdeal.nD Cert.UnguardedIdeal.τ).loc Cert.UnguardedIdeal.main_arg2) = m ((c.tc : Thread Cert.UnguardedIdeal.nD Cert.UnguardedIdeal.τ).loc Cert.UnguardedIdeal.main_arg2))
      ∧ r.2.sem = fun _ => 0)

def quiescent_UnguardedIdeal_pre_as_drawn [hUnguardedIdeal : Cert.UnguardedIdeal.Facts] [hPre_as_drawn : Cert.Pre_as_drawn.Facts] : Prop :=
  ∀ (m : (ℓ : Loc Cert.UnguardedIdeal.nD Cert.UnguardedIdeal.τ Cert.UnguardedIdeal.sig) → Buf (Elt Ideal) ℓ) (g : Dev Cert.UnguardedIdeal.nD → PrngReg), Pre_UnguardedIdeal_as_drawn m →
    θ_run (Cert.UnguardedIdeal.defs (F := Ideal)) (onTc (τ := Cert.UnguardedIdeal.τ) (Cert.UnguardedIdeal.main (F := Ideal))) ⟨m, fun _ => 0, g⟩ (fun r => (∀ c : Dev Cert.UnguardedIdeal.nD,
      r.2.mem ((c.tc : Thread Cert.UnguardedIdeal.nD Cert.UnguardedIdeal.τ).loc Cert.UnguardedIdeal.main_arg0) = m ((c.tc : Thread Cert.UnguardedIdeal.nD Cert.UnguardedIdeal.τ).loc Cert.UnguardedIdeal.main_arg0)
      ∧ r.2.mem ((c.tc : Thread Cert.UnguardedIdeal.nD Cert.UnguardedIdeal.τ).loc Cert.UnguardedIdeal.main_arg1) = m ((c.tc : Thread Cert.UnguardedIdeal.nD Cert.UnguardedIdeal.τ).loc Cert.UnguardedIdeal.main_arg1)
      ∧ r.2.mem ((c.tc : Thread Cert.UnguardedIdeal.nD Cert.UnguardedIdeal.τ).loc Cert.UnguardedIdeal.main_arg2) = m ((c.tc : Thread Cert.UnguardedIdeal.nD Cert.UnguardedIdeal.τ).loc Cert.UnguardedIdeal.main_arg2))
      ∧ r.2.sem = fun _ => 0)

def preserves_Kernel_KernelIdeal : Prop :=
  True

def algebraic_KernelIdeal_UnguardedIdeal_pre_as_drawn [hKernelIdeal : Cert.KernelIdeal.Facts] [hUnguardedIdeal : Cert.UnguardedIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnguardedIdeal.nD Cert.UnguardedIdeal.τ Cert.UnguardedIdeal.sig) → Buf (Elt Ideal) ℓ) (g' : Dev Cert.UnguardedIdeal.nD → PrngReg), Pre_KernelIdeal_as_drawn m →
    (∀ c : Dev Cert.KernelIdeal.nD,
      m' ((c.tc : Thread Cert.UnguardedIdeal.nD Cert.UnguardedIdeal.τ).loc Cert.UnguardedIdeal.main_arg0) = m ((c.tc : Thread Cert.KernelIdeal.nD Cert.KernelIdeal.τ).loc Cert.KernelIdeal.main_arg0)
      ∧ m' ((c.tc : Thread Cert.UnguardedIdeal.nD Cert.UnguardedIdeal.τ).loc Cert.UnguardedIdeal.main_arg1) = m ((c.tc : Thread Cert.KernelIdeal.nD Cert.KernelIdeal.τ).loc Cert.KernelIdeal.main_arg1)
      ∧ m' ((c.tc : Thread Cert.UnguardedIdeal.nD Cert.UnguardedIdeal.τ).loc Cert.UnguardedIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.UnguardedIdeal.defs (F := Ideal)) (onTc (τ := Cert.UnguardedIdeal.τ) (Cert.UnguardedIdeal.main (F := Ideal))) ⟨m', fun _ => 0, g'⟩ (fun r => ∀ c : Dev Cert.UnguardedIdeal.nD,
          r.2.mem ((c.tc : Thread Cert.UnguardedIdeal.nD Cert.UnguardedIdeal.τ).loc Cert.UnguardedIdeal.main_v21) = v0 c
          ∧ r.2.mem ((c.tc : Thread Cert.UnguardedIdeal.nD Cert.UnguardedIdeal.τ).loc Cert.UnguardedIdeal.main_v28) = v1 c
          ∧ r.2.mem ((c.tc : Thread Cert.UnguardedIdeal.nD Cert.UnguardedIdeal.τ).loc Cert.UnguardedIdeal.main_arg0) = m' ((c.tc : Thread Cert.UnguardedIdeal.nD Cert.UnguardedIdeal.τ).loc Cert.UnguardedIdeal.main_arg0)
          ∧ r.2.mem ((c.tc : Thread Cert.UnguardedIdeal.nD Cert.UnguardedIdeal.τ).loc Cert.UnguardedIdeal.main_arg1) = m' ((c.tc : Thread Cert.UnguardedIdeal.nD Cert.UnguardedIdeal.τ).loc Cert.UnguardedIdeal.main_arg1)
          ∧ r.2.mem ((c.tc : Thread Cert.UnguardedIdeal.nD Cert.UnguardedIdeal.τ).loc Cert.UnguardedIdeal.main_arg2) = m' ((c.tc : Thread Cert.UnguardedIdeal.nD Cert.UnguardedIdeal.τ).loc Cert.UnguardedIdeal.main_arg2))

def algebraic_KernelIdeal_ReferenceIdeal_on_clear_winner_pre_as_drawn [hKernelIdeal : Cert.KernelIdeal.Facts] [hReferenceIdeal : Cert.ReferenceIdeal.Facts] [hPre_as_drawn : Cert.Pre_as_drawn.Facts] [hOn_clear_winner : Cert.On_clear_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![128]⟩ : Shape).Idx, (Cert.On_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v2) i = v0 c i)
          ∧ (∀ i : (⟨1, ![128]⟩ : Shape).Idx, (Cert.On_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![128]⟩ : Shape).Idx, (Cert.On_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v23) i = v0 c i)
          ∧ (∀ i : (⟨1, ![128]⟩ : Shape).Idx, (Cert.On_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v30) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hUnguardedIdeal : Cert.UnguardedIdeal.Facts) (hPre_as_drawn : Cert.Pre_as_drawn.Facts) (hOn_clear_winner : Cert.On_clear_winner.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ quiescent_UnguardedIdeal (hUnguardedIdeal := hUnguardedIdeal)
    ∧ quiescent_UnguardedIdeal_pre_as_drawn (hUnguardedIdeal := hUnguardedIdeal) (hPre_as_drawn := hPre_as_drawn)
    ∧ preserves_Kernel_KernelIdeal
    ∧ algebraic_KernelIdeal_UnguardedIdeal_pre_as_drawn (hKernelIdeal := hKernelIdeal) (hUnguardedIdeal := hUnguardedIdeal) (hPre_as_drawn := hPre_as_drawn)
    ∧ algebraic_KernelIdeal_ReferenceIdeal_on_clear_winner_pre_as_drawn (hKernelIdeal := hKernelIdeal) (hReferenceIdeal := hReferenceIdeal) (hPre_as_drawn := hPre_as_drawn) (hOn_clear_winner := hOn_clear_winner)
-- ==== On_clear_winner.lean ====
abbrev S128x100000 : Shape := ⟨2, ![128, 100000]⟩
abbrev S128 : Shape := ⟨1, ![128]⟩
abbrev S_ : Shape := ⟨0, ![]⟩
abbrev S128x1 : Shape := ⟨2, ![128, 1]⟩

class Facts : Prop where
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  bcast_S_S128x100000 : S_.BroadcastsInDim S128x100000 (![] : Fin 0 → Fin S128x100000.rank)
  shapeCasts_S128_S128x1 : S128.ShapeCasts S128x1

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S128x100000 .f32) : IVec S128 32 :=
  let v0 : IVec S128x100000 32 := iotaInDim S128x100000 32 1
  let cst : FVec F S_ .f32 := constant S_ .f32 0xFF800000#32
  let c : IVec S_ 32 := constantI S_ 32 0#32
  let v1_0 : FVec F S128 .f32 := (fun x y u v j => (Host.argReduce reducer_argmax_f32_i32 x y u v reducesTo_S128x100000_S128_d1 h_S_ j).1) arg0 v0 cst c
  let v1_1 : IVec S128 32 := (fun x y u v j => (Host.argReduce reducer_argmax_f32_i32 x y u v reducesTo_S128x100000_S128_d1 h_S_ j).2) arg0 v0 cst c
  v1_1

def fn_part1 {F : FTy → Type} [FloatOps F] (main_arg2 : IVec S128 32) (main_v10 : FVec F S128x100000 .f32) (main_v16 : FVec F S128x100000 .f32) (main_v17 : FVec F S128x100000 .f32) (main_cst_4 : FVec F S_ .f32) : IVec S128 1 × IVec S128 1 :=
  let main_v18 : FVec F S128 .f32 := (fun x v => Host.reduce FloatOps.maximumf x v reducesTo_S128x100000_S128_d1 h_S_) main_v17 main_cst_4
  let main_v19 : FVec F S128x1 .f32 := broadcastInDim S128x1 ![0] bcast_S128_S128x1_0 main_v18
  let main_v20 : IVec S128 32 := fn_argmax (F := F) main_v17
  let main_v21 : IVec S128x1 32 := shapeCast S128x1 main_v20 shapeCasts_S128_S128x1
  let main_v22 : IVec S128x100000 32 := iotaInDim S128x100000 32 1
  let main_v23 : IVec S128x100000 32 := broadcastInDim S128x100000 ![0, 1] bcast_S128x1_S128x100000_0_1 main_v21
  let main_v24 : IVec S128x100000 1 := cmpi .eq main_v22 main_v23
  let main_cst_5 : FVec F S_ .f32 := constant S_ .f32 0x1E3CE508#32
  let main_v25 : FVec F S128x100000 .f32 := broadcastInDim S128x100000 ![] bcast_S_S128x100000 main_cst_5
  let main_v26 : FVec F S128x100000 .f32 := addf main_v10 main_v25
  let main_v27 : FVec F S128x100000 .f32 := Host.divf main_v26 main_v16
  let main_v28 : FVec F S128x100000 .f32 := broadcastInDim S128x100000 ![0, 1] bcast_S128x1_S128x100000_0_1 main_v19
  let main_v29 : IVec S128x100000 1 := cmpf .olt main_v27 main_v28
  let main_v30 : IVec S128x100000 1 := ori main_v24 main_v29
  let main_c : IVec S_ 1 := constantI S_ 1 1#1
  let main_v31 : IVec S128 1 := (fun x v => Host.reduce IntOp.andi x v reducesTo_S128x100000_S128_d1 h_S_) main_v30 main_c
  let main_v32 : IVec S128 1 := cmpi .eq main_arg2 main_arg2
  (main_v31, main_v32)

def fn {F : FTy → Type} [FloatOps F] (main_arg0 : FVec F S128x100000 .f32) (main_arg1 : FVec F S128x100000 .f32) (main_arg2 : IVec S128 32) : IVec S128 1 × IVec S128 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : FVec F S128 .f32 := maximumf main_v1 main_v0
  let main_v3 : FVec F S128x1 .f32 := broadcastInDim S128x1 ![0] bcast_S128_S128x1_0 main_v2
  let main_v4 : FVec F S128x100000 .f32 := broadcastInDim S128x100000 ![0, 1] bcast_S128x1_S128x100000_0_1 main_v3
  let main_v5 : FVec F S128x100000 .f32 := subf main_arg0 main_v4
  let main_v6 : FVec F S128x100000 .f32 := Host.exp main_v5
  let main_cst_1 : FVec F S_ .f32 := constant S_ .f32 0x00000000#32
  let main_v7 : FVec F S128 .f32 := (fun x v => Host.reduceAdd x v reducesTo_S128x100000_S128_d1 h_S_) main_v6 main_cst_1
  let main_v8 : FVec F S128x1 .f32 := broadcastInDim S128x1 ![0] bcast_S128_S128x1_0 main_v7
  let main_v9 : FVec F S128x100000 .f32 := broadcastInDim S128x100000 ![0, 1] bcast_S128x1_S128x100000_0_1 main_v8
  let main_v10 : FVec F S128x100000 .f32 := Host.divf main_v6 main_v9
  let main_cst_2 : FVec F S_ .f32 := constant S_ .f32 0x2EDBE6FF#32
  let main_v11 : FVec F S128x100000 .f32 := broadcastInDim S128x100000 ![] bcast_S_S128x100000 main_cst_2
  let main_v12 : FVec F S128x100000 .f32 := addf main_arg1 main_v11
  let main_v13 : FVec F S128x100000 .f32 := Host.log main_v12
  let main_v14 : FVec F S128x100000 .f32 := Host.negf main_v13
  let main_cst_3 : FVec F S_ .f32 := constant S_ .f32 0x2EDBE6FF#32
  let main_v15 : FVec F S128x100000 .f32 := broadcastInDim S128x100000 ![] bcast_S_S128x100000 main_cst_3
  let main_v16 : FVec F S128x100000 .f32 := addf main_v14 main_v15
  let main_v17 : FVec F S128x100000 .f32 := Host.divf main_v10 main_v16
  let main_cst_4 : FVec F S_ .f32 := constant S_ .f32 0xFF800000#32
  fn_part1 (F := F) main_arg2 main_v10 main_v16 main_v17 main_cst_4
-- ==== Pre_as_drawn.lean ====
abbrev S128x100000 : Shape := ⟨2, ![128, 100000]⟩
abbrev S128 : Shape := ⟨1, ![128]⟩
abbrev S_ : Shape := ⟨0, ![]⟩

class Facts : Prop where
  bcast_S_S128x100000 : S_.BroadcastsInDim S128x100000 (![] : Fin 0 → Fin S128x100000.rank)
  bcast_S_S128 : S_.BroadcastsInDim S128 (![] : Fin 0 → Fin S128.rank)

variable [Facts]

def fn {F : FTy → Type} [FloatOps F] (main_arg0 : FVec F S128x100000 .f32) (main_arg1 : FVec F S128x100000 .f32) (main_arg2 : IVec S128 32) : IVec S128x100000 1 × IVec S128x100000 1 × IVec S128 1 :=
  let main_cst : FVec F S_ .f32 := constant S_ .f32 0xFF800000#32
  let main_v0 : FVec F S128x100000 .f32 := broadcastInDim S128x100000 ![] bcast_S_S128x100000 main_cst
  let main_v1 : IVec S128x100000 1 := cmpf .ogt main_arg0 main_v0
  let main_cst_0 : FVec F S_ .f32 := constant S_ .f32 0x7F800000#32
  let main_v2 : FVec F S128x100000 .f32 := broadcastInDim S128x100000 ![] bcast_S_S128x100000 main_cst_0
  let main_v3 : IVec S128x100000 1 := cmpf .olt main_arg0 main_v2
  let main_v4 : IVec S128x100000 1 := andi main_v1 main_v3
  let main_cst_1 : FVec F S_ .f32 := constant S_ .f32 0x00000000#32
  let main_v5 : FVec F S128x100000 .f32 := broadcastInDim S128x100000 ![] bcast_S_S128x100000 main_cst_1
  let main_v6 : IVec S128x100000 1 := cmpf .oge main_arg1 main_v5
  let main_cst_2 : FVec F S_ .f32 := constant S_ .f32 0x3F800000#32
  let main_v7 : FVec F S128x100000 .f32 := broadcastInDim S128x100000 ![] bcast_S_S128x100000 main_cst_2
  let main_v8 : IVec S128x100000 1 := cmpf .ole main_arg1 main_v7
  let main_v9 : IVec S128x100000 1 := andi main_v6 main_v8
  let main_c : IVec S_ 32 := constantI S_ 32 0#32
  let main_v10 : IVec S128 32 := broadcastInDim S128 ![] bcast_S_S128 main_c
  let main_v11 : IVec S128 1 := cmpi .sge main_arg2 main_v10
  let main_c_3 : IVec S_ 32 := constantI S_ 32 100000#32
  let main_v12 : IVec S128 32 := broadcastInDim S128 ![] bcast_S_S128 main_c_3
  let main_v13 : IVec S128 1 := cmpi .slt main_arg2 main_v12
  let main_v14 : IVec S128 1 := andi main_v11 main_v13
  (main_v4, main_v9, main_v14)
-- ==== Kernel.lean ====
abbrev S128x100000 : Shape := ⟨2, ![128, 100000]⟩
abbrev S128 : Shape := ⟨1, ![128]⟩
abbrev S128x1 : Shape := ⟨2, ![128, 1]⟩
abbrev S128x12544 : Shape := ⟨2, ![128, 12544]⟩

abbrev nBuf : Space → Nat
  | .hbm => 8
  | .vmem => 11
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128, .i32⟩
  | .hbm, ⟨3, _⟩ => ⟨S128x1, .i32⟩
  | .hbm, ⟨4, _⟩ => ⟨S128x1, .i32⟩
  | .hbm, ⟨5, _⟩ => ⟨S128x1, .f32⟩
  | .hbm, ⟨6, _⟩ => ⟨S128, .i32⟩
  | .hbm, ⟨7, _⟩ => ⟨S128, .f32⟩
  | .local _ .vmem, ⟨0, _⟩ => ⟨S128x12544, .f32⟩
  | .local _ .vmem, ⟨1, _⟩ => ⟨S128x12544, .f32⟩
  | .local _ .vmem, ⟨2, _⟩ => ⟨S128x12544, .f32⟩
  | .local _ .vmem, ⟨3, _⟩ => ⟨S128x12544, .f32⟩
  | .local _ .vmem, ⟨4, _⟩ => ⟨S128x1, .i32⟩
  | .local _ .vmem, ⟨5, _⟩ => ⟨S128x1, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .i32⟩
  | .local _ .vmem, ⟨10, _⟩ => ⟨S128x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32_2 : BitVec 32 := 7#32
  let v6 : BitVec 1 := Scalar.cmpi .eq arg0 c7_i32_2
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S12800000 : Shape := ⟨1, ![12800000]⟩
abbrev S1 : Shape := ⟨1, ![1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128, .i32⟩
  | .hbm, ⟨3, _⟩ => ⟨S_, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128x1, .f32⟩
  | .hbm, ⟨9, _⟩ => ⟨S128x100000, .f32⟩
  | .hbm, ⟨10, _⟩ => ⟨S128x100000, .f32⟩
  | .hbm, ⟨11, _⟩ => ⟨S128x100000, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S128x100000, .f32⟩
  | .hbm, ⟨16, _⟩ => ⟨S128x100000, .f32⟩
  | .hbm, ⟨17, _⟩ => ⟨S_, .f32⟩
  | .hbm, ⟨18, _⟩ => ⟨S128x100000, .f32⟩
  | .hbm, ⟨19, _⟩ => ⟨S128x100000, .f32⟩
  | .hbm, ⟨20, _⟩ => ⟨S128x100000, .f32⟩
  | .hbm, ⟨21, _⟩ => ⟨S128x100000, .f32⟩
  | .hbm, ⟨22, _⟩ => ⟨S_, .f32⟩
  | .hbm, ⟨23, _⟩ => ⟨S128x100000, .f32⟩
  | .hbm, ⟨24, _⟩ => ⟨S128x100000, .f32⟩
  | .hbm, ⟨25, _⟩ => ⟨S128x100000, .f32⟩
  | .hbm, ⟨26, _⟩ => ⟨S128x100000, .f32⟩
  | .hbm, ⟨27, _⟩ => ⟨S_, .f32⟩
  | .hbm, ⟨28, _⟩ => ⟨S128x100000, .f32⟩
  | .hbm, ⟨29, _⟩ => ⟨S128x100000, .f32⟩
  | .hbm, ⟨30, _⟩ => ⟨S128x100000, .f32⟩
  | .hbm, ⟨31, _⟩ => ⟨S128x100000, .f32⟩
  | .hbm, ⟨32, _⟩ => ⟨S128x100000, .i32⟩
  | .hbm, ⟨33, _⟩ => ⟨S_, .f32⟩
  | .hbm, ⟨34, _⟩ => ⟨S_, .i32⟩
  | .hbm, ⟨35, _⟩ => ⟨S128, .f32⟩
  | .hbm, ⟨36, _⟩ => ⟨S128, .i32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128x1, .f32⟩
  | .hbm, ⟨43, _⟩ => ⟨S128x100000, .f32⟩
  | .hbm, ⟨44, _⟩ => ⟨S128x100000, .f32⟩
  | .hbm, ⟨45, _⟩ => ⟨S128x100000, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S128x1, .f32⟩
  | .hbm, ⟨50, _⟩ => ⟨S128x100000, .f32⟩
  | .hbm, ⟨51, _⟩ => ⟨S128x100000, .f32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S12800000, .f32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S128x1, .i32⟩
  | .hbm, ⟨66, _⟩ => ⟨S1, .i32⟩
  | .hbm, ⟨67, _⟩ => ⟨S_, .i32⟩
  | .hbm, ⟨68, _⟩ => ⟨S128x1, .i32⟩
  | .hbm, ⟨69, _⟩ => ⟨S128x1, .i1⟩
  | .hbm, ⟨70, _⟩ => ⟨S1x1, .i32⟩
  | .hbm, ⟨71, _⟩ => ⟨S128x1, .i32⟩
  | .hbm, ⟨72, _⟩ => ⟨S128x1, .i1⟩
  | .hbm, ⟨73, _⟩ => ⟨S128x1, .i1⟩
  | .hbm, ⟨74, _⟩ => ⟨S_, .i1⟩
  | .hbm, ⟨75, _⟩ => ⟨S128, .i1⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_call1_cst_0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_cst_1 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_v24 : Ref sig .tc := ⟨.hbm, 51, rfl⟩
abbrev main_v25 : Ref sig .tc := ⟨.hbm, 52, rfl⟩
abbrev main_c : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v30 : Ref sig .tc := ⟨.hbm, 79, rfl⟩

abbrev nD : Nat := 1
abbrev τ : Topo := Topo.v7x

variable {F : FTy → Type} [FloatOps F]
-- ==== UnguardedIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S12800000 : Shape := ⟨1, ![12800000]⟩
abbrev S1 : Shape := ⟨1, ![1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128, .i32⟩
  | .hbm, ⟨3, _⟩ => ⟨S_, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128x1, .f32⟩
  | .hbm, ⟨9, _⟩ => ⟨S128x100000, .f32⟩
  | .hbm, ⟨10, _⟩ => ⟨S128x100000, .f32⟩
  | .hbm, ⟨11, _⟩ => ⟨S128x100000, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S128x100000, .f32⟩
  | .hbm, ⟨16, _⟩ => ⟨S128x100000, .f32⟩
  | .hbm, ⟨17, _⟩ => ⟨S_, .f32⟩
  | .hbm, ⟨18, _⟩ => ⟨S128x100000, .f32⟩
  | .hbm, ⟨19, _⟩ => ⟨S128x100000, .f32⟩
  | .hbm, ⟨20, _⟩ => ⟨S128x100000, .f32⟩
  | .hbm, ⟨21, _⟩ => ⟨S128x100000, .f32⟩
  | .hbm, ⟨22, _⟩ => ⟨S_, .f32⟩
  | .hbm, ⟨23, _⟩ => ⟨S128x100000, .f32⟩
  | .hbm, ⟨24, _⟩ => ⟨S128x100000, .f32⟩
  | .hbm, ⟨25, _⟩ => ⟨S128x100000, .f32⟩
  | .hbm, ⟨26, _⟩ => ⟨S128x100000, .f32⟩
  | .hbm, ⟨27, _⟩ => ⟨S128x100000, .f32⟩
  | .hbm, ⟨28, _⟩ => ⟨S128x100000, .f32⟩
  | .hbm, ⟨29, _⟩ => ⟨S128x100000, .i32⟩
  | .hbm, ⟨30, _⟩ => ⟨S_, .f32⟩
  | .hbm, ⟨31, _⟩ => ⟨S_, .i32⟩
  | .hbm, ⟨32, _⟩ => ⟨S128, .f32⟩
  | .hbm, ⟨33, _⟩ => ⟨S128, .i32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128x1, .f32⟩
  | .hbm, ⟨40, _⟩ => ⟨S128x100000, .f32⟩
  | .hbm, ⟨41, _⟩ => ⟨S128x100000, .f32⟩
  | .hbm, ⟨42, _⟩ => ⟨S128x100000, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S128x1, .f32⟩
  | .hbm, ⟨47, _⟩ => ⟨S128x100000, .f32⟩
  | .hbm, ⟨48, _⟩ => ⟨S128x100000, .f32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S12800000, .f32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S128x1, .i32⟩
  | .hbm, ⟨63, _⟩ => ⟨S1, .i32⟩
  | .hbm, ⟨64, _⟩ => ⟨S_, .i32⟩
  | .hbm, ⟨65, _⟩ => ⟨S128x1, .i32⟩
  | .hbm, ⟨66, _⟩ => ⟨S128x1, .i1⟩
  | .hbm, ⟨67, _⟩ => ⟨S1x1, .i32⟩
  | .hbm, ⟨68, _⟩ => ⟨S128x1, .i32⟩
  | .hbm, ⟨69, _⟩ => ⟨S128x1, .i1⟩
  | .hbm, ⟨70, _⟩ => ⟨S128x1, .i1⟩
  | .hbm, ⟨71, _⟩ => ⟨S_, .i1⟩
  | .hbm, ⟨72, _⟩ => ⟨S128, .i1⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v21 : Ref sig .tc := ⟨.hbm, 33, rfl⟩
abbrev main_call1_cst : Ref sig .tc := ⟨.hbm, 34, rfl⟩
abbrev main_call1_v0 : Ref sig .tc := ⟨.hbm, 35, rfl⟩
abbrev main_call1_cst_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_v22 : Ref sig .tc := ⟨.hbm, 48, rfl⟩
abbrev main_v23 : Ref sig .tc := ⟨.hbm, 49, rfl⟩
abbrev main_c : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v28 : Ref sig .tc := ⟨.hbm, 76, rfl⟩

abbrev nD : Nat := 1
abbrev τ : Topo := Topo.v7x

variable {F : FTy → Type} [FloatOps F]
-- ==== Proof.Access.lean ====
/-
  Reading and storing the whole of an owned memref: the two rules the kernel's body is stepped through with.
-/
module

public import Idealize.ShloMosaic.Lib.Pipeline.KitQuiescent
public import Idealize.ShloMosaic.Lib.Pipeline.ValueKit
public import Idealize.ShloMosaic.Lib.Tactic

@[expose] public section

noncomputable section

namespace Cert.Access

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable [Preorder Lvl] {defs : Defs nD τ sig Val Λ} (𝒱 : Variants) (c : Thread nD τ)
  (bd : Option 𝒱.V) (Γ : PendingWaitsCtx sig Ix) (E : Set Name)
variable {s : Shape} {e : EltTy}

/-- A load of everything an owned memref shows continues at what it shows, the memref still owned. -/
theorem load_all {α : Type} {Q : α → sProp 𝕄} {cs : CoreSpace} {m : Memref sig c.2.kind cs s e} {off : Fin s.rank → Nat} {inb : ∀ a, off a + s.size a ≤ s.size a}
    (h0 : ∀ a, off a = 0) {hl : m.view.LoadsAt (Rect.unit off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Q)
        -∗ wp frame (wpE' defs 𝒱 c bd Γ) E (.op (.load m (Rect.unit off s.size inb).toLoadRect hl) k) Q) := by
  unfold owns
  iintro ⟨%f, %hf, H⟩ K
  iapply (wp_load (defs := defs) 𝒱 c bd (Γ := Γ) E (m := m) (r := (Rect.unit off s.size inb).toLoadRect)
    (hl := hl) (k := k) (q := q) (f := f) (S := m.view.set) (View.setOn_subset_set _ _)) $$ H
  iintro H
  rw [show m.view.readAt Val (Rect.unit off s.size inb).toLoadRect f = X from
    (View.ld_unit_lit inb (m.view.read Val f) h0).trans hf]
  iapply K
  iexists f
  isplitr
  · ipureintro; exact hf
  · iexact H

/-- A store over everything an owned memref shows leaves it owned at what was stored. -/
theorem store_all {α : Type} {Q : α → sProp 𝕄} {cs : CoreSpace} {m : Memref sig c.2.kind cs s e} {off : Fin s.rank → Nat} {inb : ∀ a, off a + s.size a ≤ s.size a}
    (h0 : ∀ a, off a = 0) {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Q)
        -∗ wp frame (wpE' defs 𝒱 c bd Γ) E (.op (.store m (Rect.unit off s.size inb) w Finset.univ hx hm) k) Q) := by
  unfold owns
  iintro ⟨%f, %hf, H⟩ K
  iapply (wp_store (defs := defs) 𝒱 c bd (Γ := Γ) E (m := m) (r := Rect.unit off s.size inb) (w := w)
    (Mk := Finset.univ) (hx := hx) (hm := hm) (k := k) (f := f) (S := m.view.set)
    (View.set_slice_subset _ _)) $$ H
  iintro H
  iapply K
  iexists ((m.access (Rect.unit off s.size inb)).write Val f w Finset.univ)
  isplitr
  · ipureintro
    have h1 := (m.access (Rect.unit off s.size inb)).read_write_univ f w
    exact (View.ld_unit_lit inb (m.view.read Val ((m.access (Rect.unit off s.size inb)).write Val f w Finset.univ)) h0).symm.trans h1
  · iexact H

end Cert.Access

end
-- ==== Proof.IdealBody.lean ====
/-
  The kernel's body at one grid point, as a rule: what its four running columns and its two result blocks hold
  afterwards, at any float values.
-/
module

public import proofs.«01_k».proof.Proof.Access
public import proofs.«01_k».proof.Proof.Gen.KernelIdeal.Skeleton
public import proofs.«01_k».proof.Proof.Gen.KernelIdeal.Frame

@[expose] public section

set_option maxRecDepth 16384

noncomputable section

namespace Cert.IdealBody

open Cert.KernelIdeal Cert.KernelIdeal.Gen Cert.Access
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The four running columns: sum of exponentials, best score, its column, the action's logit. -/
structure Cols (F : FTy → Type) where
  sum : Vec F S128x1 .f32
  best : Vec F S128x1 .f32
  idx : Vec F S128x1 .i32
  act : Vec F S128x1 .f32

/-- The columns before the first block. -/
def start : Cols F := ⟨k0_pay1, k0_pay2, k0_pay3, k0_pay4⟩

/-- The columns after a block that lies inside the array. -/
def inner (a : BitVec 32) (X Y : Vec F S128x12544 .f32) (Z : Vec F S128x1 .i32) (s : Cols F) : Cols F :=
  ⟨k0_pay11 X s.sum, k0_pay5 (k0_pay15 a X Y s.best s.idx), k0_pay6 (k0_pay13 a X Y) s.idx (k0_pay14 a X Y s.best s.idx),
    k0_pay7 X (k0_pay8 a) s.act Z⟩

/-- The columns after the last block, which overhangs the array. -/
def outer (a : BitVec 32) (X Y : Vec F S128x12544 .f32) (Z : Vec F S128x1 .i32) (s : Cols F) : Cols F :=
  ⟨k0_pay20 a X s.sum,
    k0_pay24 (k0_pay21 a (Scalar.ofBits .f32 0xFF800000#32) X Y) (k0_pay22 a (Scalar.ofBits .f32 0xFF800000#32) X Y) s.best s.idx,
    k0_pay25 (k0_pay21 a (Scalar.ofBits .f32 0xFF800000#32) X Y) (k0_pay22 a (Scalar.ofBits .f32 0xFF800000#32) X Y) s.best s.idx,
    k0_pay26 X (k0_pay16 a) s.act Z⟩

/-- The two rows of results read off the columns. -/
def picked (s : Cols F) : Vec F S128x1 .i32 := s.idx
def logProb (s : Cols F) : Vec F S128x1 .f32 := k0_pay27 s.act s.sum

/-- "This is the first point", "a point before the last", as the body tests them. -/
def isFirst (i : grid0.Coords) : BitVec 1 :=
  Scalar.cmpi .ne (Scalar.extui (Scalar.cmpi .eq (BitVec.ofNat 32 (i 0).val) 0#32) : BitVec 32) 0#32
def isInner (i : grid0.Coords) : BitVec 1 :=
  Scalar.cmpi .ne (Scalar.extui (Scalar.cmpi .slt (BitVec.ofNat 32 (i 0).val) 7#32) : BitVec 32) 0#32

variable (𝒱₀ : Variants) (c : Dev nD) (E : Set ℕ) (i : grid0.Coords)
  (M1 : Memref sig .tc .vmem S128x12544 .f32) (h1 : M1.IsWhole) (M2 : Memref sig .tc .vmem S128x12544 .f32) (h2 : M2.IsWhole)
  (M3 : Memref sig .tc .vmem S128x1 .i32) (h3 : M3.IsWhole) (M4 : Memref sig .tc .vmem S128x1 .i32) (h4 : M4.IsWhole)
  (M5 : Memref sig .tc .vmem S128x1 .f32) (h5 : M5.IsWhole) (M6 : Memref sig .tc .vmem S128x1 .f32) (h6 : M6.IsWhole)
  (M7 : Memref sig .tc .vmem S128x1 .f32) (h7 : M7.IsWhole) (M8 : Memref sig .tc .vmem S128x1 .i32) (h8 : M8.IsWhole)
  (M9 : Memref sig .tc .vmem S128x1 .f32) (h9 : M9.IsWhole)
  (X Y : Vec F S128x12544 .f32) (Z : Vec F S128x1 .i32) (s : Cols F) (P : Vec F S128x1 .i32) (R : Vec F S128x1 .f32)

/-- What the body holds: its blocks, its result blocks, its running columns. -/
abbrev held (X Y : Vec F S128x12544 .f32) (Z : Vec F S128x1 .i32) (P : Vec F S128x1 .i32) (R : Vec F S128x1 .f32) (s : Cols F) : sProp 𝕄 :=
  iprop(owns (c : Thread nD τ) M1 fullShare X ∗ owns (c : Thread nD τ) M2 fullShare Y ∗ owns (c : Thread nD τ) M3 fullShare Z
    ∗ owns (c : Thread nD τ) M4 fullShare P ∗ owns (c : Thread nD τ) M5 fullShare R
    ∗ owns (c : Thread nD τ) M6 fullShare s.sum ∗ owns (c : Thread nD τ) M7 fullShare s.best
    ∗ owns (c : Thread nD τ) M8 fullShare s.idx ∗ owns (c : Thread nD τ) M9 fullShare s.act)

theorem off2 : ∀ a : Fin 2, (![0, 0] : Fin 2 → Nat) a = 0 := by decide

set_option maxHeartbeats 4000000 in
/-- A point between the first and the last: the columns take the block in. -/
theorem body_inner (c1 : isFirst i ≠ 1#1) (c2 : isInner i = 1#1) (c3 : k0_cond3 i ≠ 1#1) (K : PUnit → sProp 𝕄) :
    iprop(held (F := F) c M1 M2 M3 M4 M5 M6 M7 M8 M9 X Y Z P R s
        ∗ (held (F := F) c M1 M2 M3 M4 M5 M6 M7 M8 M9 X Y Z P R (inner (BitVec.ofNat 32 (i 0).val) X Y Z s) -∗ K ⟨⟩))
      ⊢ wp frame (wpE (defs₀ (F := F)) 𝒱₀ (c : Thread nD τ) none) E
          (cc0__body (F := F) i M1 h1 M2 h2 M3 h3 M4 h4 M5 h5 M6 h6 M7 h7 M8 h8 M9 h9) K := by
  unfold isFirst at c1; unfold isInner at c2
  simp only [cc0__body_eq_skeleton, cc0__body_skel, k0_part1_eq_skeleton, k0_part1_skel, dif_neg c1, dif_pos c2, dif_neg c3,
    Prog.lift, Prog.bind_op, Prog.bind_ret, Prog.pure_eq_ret]
  iintro ⟨⟨H1, H2, H3, H4, H5, H6, H7, H8, H9⟩, Hk⟩
  iapply (load_all 𝒱₀ _ none _ E off2) $$ H1; iintro H1
  iapply (load_all 𝒱₀ _ none _ E off2) $$ H2; iintro H2
  iapply (load_all 𝒱₀ _ none _ E off2) $$ H6; iintro H6
  iapply (load_all 𝒱₀ _ none _ E off2) $$ H6; iintro H6
  iapply (store_all 𝒱₀ _ none _ E off2) $$ H6; iintro H6
  iapply (load_all 𝒱₀ _ none _ E off2) $$ H7; iintro H7
  iapply (load_all 𝒱₀ _ none _ E off2) $$ H8; iintro H8
  iapply (load_all 𝒱₀ _ none _ E off2) $$ H7; iintro H7
  iapply (store_all 𝒱₀ _ none _ E off2) $$ H7; iintro H7
  iapply (load_all 𝒱₀ _ none _ E off2) $$ H8; iintro H8
  iapply (store_all 𝒱₀ _ none _ E off2) $$ H8; iintro H8
  iapply (load_all 𝒱₀ _ none _ E off2) $$ H9; iintro H9
  iapply (load_all 𝒱₀ _ none _ E off2) $$ H3; iintro H3
  iapply (load_all 𝒱₀ _ none _ E off2) $$ H9; iintro H9
  iapply (store_all 𝒱₀ _ none _ E off2) $$ H9; iintro H9
  rw [wp_ret]
  imodintro
  iapply Hk
  simp only [held, inner]
  iframe

set_option maxHeartbeats 4000000 in
/-- The first point: the columns are set up, then take the block in. -/
theorem body_first (c1 : isFirst i = 1#1) (c2 : isInner i = 1#1) (c3 : k0_cond3 i ≠ 1#1) (K : PUnit → sProp 𝕄) :
    iprop(held (F := F) c M1 M2 M3 M4 M5 M6 M7 M8 M9 X Y Z P R s
        ∗ (held (F := F) c M1 M2 M3 M4 M5 M6 M7 M8 M9 X Y Z P R (inner (BitVec.ofNat 32 (i 0).val) X Y Z start) -∗ K ⟨⟩))
      ⊢ wp frame (wpE (defs₀ (F := F)) 𝒱₀ (c : Thread nD τ) none) E
          (cc0__body (F := F) i M1 h1 M2 h2 M3 h3 M4 h4 M5 h5 M6 h6 M7 h7 M8 h8 M9 h9) K := by
  unfold isFirst at c1; unfold isInner at c2
  simp only [cc0__body_eq_skeleton, cc0__body_skel, k0_part1_eq_skeleton, k0_part1_skel, dif_pos c1, dif_pos c2, dif_neg c3,
    Prog.lift, Prog.bind_op, Prog.bind_ret, Prog.pure_eq_ret]
  iintro ⟨⟨H1, H2, H3, H4, H5, H6, H7, H8, H9⟩, Hk⟩
  iapply (load_all 𝒱₀ _ none _ E off2) $$ H6; iintro H6
  iapply (store_all 𝒱₀ _ none _ E off2) $$ H6; iintro H6
  iapply (load_all 𝒱₀ _ none _ E off2) $$ H7; iintro H7
  iapply (store_all 𝒱₀ _ none _ E off2) $$ H7; iintro H7
  iapply (load_all 𝒱₀ _ none _ E off2) $$ H8; iintro H8
  iapply (store_all 𝒱₀ _ none _ E off2) $$ H8; iintro H8
  iapply (load_all 𝒱₀ _ none _ E off2) $$ H9; iintro H9
  iapply (store_all 𝒱₀ _ none _ E off2) $$ H9; iintro H9
  iapply (load_all 𝒱₀ _ none _ E off2) $$ H1; iintro H1
  iapply (load_all 𝒱₀ _ none _ E off2) $$ H2; iintro H2
  iapply (load_all 𝒱₀ _ none _ E off2) $$ H6; iintro H6
  iapply (load_all 𝒱₀ _ none _ E off2) $$ H6; iintro H6
  iapply (store_all 𝒱₀ _ none _ E off2) $$ H6; iintro H6
  iapply (load_all 𝒱₀ _ none _ E off2) $$ H7; iintro H7
  iapply (load_all 𝒱₀ _ none _ E off2) $$ H8; iintro H8
  iapply (load_all 𝒱₀ _ none _ E off2) $$ H7; iintro H7
  iapply (store_all 𝒱₀ _ none _ E off2) $$ H7; iintro H7
  iapply (load_all 𝒱₀ _ none _ E off2) $$ H8; iintro H8
  iapply (store_all 𝒱₀ _ none _ E off2) $$ H8; iintro H8
  iapply (load_all 𝒱₀ _ none _ E off2) $$ H9; iintro H9
  iapply (load_all 𝒱₀ _ none _ E off2) $$ H3; iintro H3
  iapply (load_all 𝒱₀ _ none _ E off2) $$ H9; iintro H9
  iapply (store_all 𝒱₀ _ none _ E off2) $$ H9; iintro H9
  rw [wp_ret]
  imodintro
  iapply Hk
  simp only [held, inner, start]
  iframe

set_option maxHeartbeats 4000000 in
/-- The last point: the columns take the clipped block in and the results are stored. -/
theorem body_last (c1 : isFirst i ≠ 1#1) (c2 : isInner i ≠ 1#1) (c3 : k0_cond3 i = 1#1) (K : PUnit → sProp 𝕄) :
    iprop(held (F := F) c M1 M2 M3 M4 M5 M6 M7 M8 M9 X Y Z P R s
        ∗ (held (F := F) c M1 M2 M3 M4 M5 M6 M7 M8 M9 X Y Z
          (picked (outer (BitVec.ofNat 32 (i 0).val) X Y Z s)) (logProb (outer (BitVec.ofNat 32 (i 0).val) X Y Z s))
          (outer (BitVec.ofNat 32 (i 0).val) X Y Z s) -∗ K ⟨⟩))
      ⊢ wp frame (wpE (defs₀ (F := F)) 𝒱₀ (c : Thread nD τ) none) E
          (cc0__body (F := F) i M1 h1 M2 h2 M3 h3 M4 h4 M5 h5 M6 h6 M7 h7 M8 h8 M9 h9) K := by
  unfold isFirst at c1; unfold isInner at c2
  simp only [cc0__body_eq_skeleton, cc0__body_skel, k0_part2_eq_skeleton, k0_part2_skel, k0_part3_eq_skeleton, k0_part3_skel, dif_neg c1, dif_neg c2, dif_pos c3,
    Prog.lift, Prog.bind_op, Prog.bind_ret, Prog.pure_eq_ret]
  iintro ⟨⟨H1, H2, H3, H4, H5, H6, H7, H8, H9⟩, Hk⟩
  iapply (load_all 𝒱₀ _ none _ E off2) $$ H1; iintro H1
  iapply (load_all 𝒱₀ _ none _ E off2) $$ H2; iintro H2
  iapply (load_all 𝒱₀ _ none _ E off2) $$ H6; iintro H6
  iapply (load_all 𝒱₀ _ none _ E off2) $$ H6; iintro H6
  iapply (store_all 𝒱₀ _ none _ E off2) $$ H6; iintro H6
  iapply (load_all 𝒱₀ _ none _ E off2) $$ H7; iintro H7
  iapply (load_all 𝒱₀ _ none _ E off2) $$ H8; iintro H8
  iapply (load_all 𝒱₀ _ none _ E off2) $$ H7; iintro H7
  iapply (store_all 𝒱₀ _ none _ E off2) $$ H7; iintro H7
  iapply (load_all 𝒱₀ _ none _ E off2) $$ H8; iintro H8
  iapply (store_all 𝒱₀ _ none _ E off2) $$ H8; iintro H8
  iapply (load_all 𝒱₀ _ none _ E off2) $$ H9; iintro H9
  iapply (load_all 𝒱₀ _ none _ E off2) $$ H3; iintro H3
  iapply (load_all 𝒱₀ _ none _ E off2) $$ H9; iintro H9
  iapply (store_all 𝒱₀ _ none _ E off2) $$ H9; iintro H9
  iapply (load_all 𝒱₀ _ none _ E off2) $$ H8; iintro H8
  iapply (load_all 𝒱₀ _ none _ E off2) $$ H4; iintro H4
  iapply (store_all 𝒱₀ _ none _ E off2) $$ H4; iintro H4
  iapply (load_all 𝒱₀ _ none _ E off2) $$ H9; iintro H9
  iapply (load_all 𝒱₀ _ none _ E off2) $$ H6; iintro H6
  iapply (load_all 𝒱₀ _ none _ E off2) $$ H5; iintro H5
  iapply (store_all 𝒱₀ _ none _ E off2) $$ H5; iintro H5
  rw [wp_ret]
  imodintro
  iapply Hk
  simp only [held, outer, picked, logProb]
  iframe

end Cert.IdealBody

end
-- ==== Proof.IdealPoint.lean ====
/-
  The kernel's body at a point of the grid, whichever it is.
-/
module

public import proofs.«01_k».proof.Proof.IdealBody

@[expose] public section

set_option maxRecDepth 16384

noncomputable section

namespace Cert.IdealBody

open Cert.KernelIdeal Cert.KernelIdeal.Gen Cert.Access
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The columns after point `t`. -/
def next (t : Fin grid0.N) (X Y : Vec F S128x12544 .f32) (Z : Vec F S128x1 .i32) (s : Cols F) : Cols F :=
  if t.val = 0 then inner (BitVec.ofNat 32 t.val) X Y Z start
  else if t.val = 7 then outer (BitVec.ofNat 32 t.val) X Y Z s
  else inner (BitVec.ofNat 32 t.val) X Y Z s

/-- The result blocks after point `t`: stored at the last one only. -/
def pickedAt (t : Fin grid0.N) (P : Vec F S128x1 .i32) (s : Cols F) : Vec F S128x1 .i32 := if t.val = 7 then picked s else P
def logProbAt (t : Fin grid0.N) (R : Vec F S128x1 .f32) (s : Cols F) : Vec F S128x1 .f32 := if t.val = 7 then logProb s else R

theorem coords_val (t : Fin grid0.N) : (grid0.coords t 0).val = t.val := by
  rcases fin_N0 t with rfl | rfl | rfl | rfl | rfl | rfl | rfl | rfl <;> decide +kernel

theorem isFirst_iff (t : Fin grid0.N) : isFirst (grid0.coords t) = 1#1 ↔ t.val = 0 := by
  rcases fin_N0 t with rfl | rfl | rfl | rfl | rfl | rfl | rfl | rfl <;> decide +kernel

theorem isInner_iff (t : Fin grid0.N) : isInner (grid0.coords t) = 1#1 ↔ t.val ≠ 7 := by
  rcases fin_N0 t with rfl | rfl | rfl | rfl | rfl | rfl | rfl | rfl <;> decide +kernel

theorem isLast_iff (t : Fin grid0.N) : k0_cond3 (grid0.coords t) = 1#1 ↔ t.val = 7 := by
  rcases fin_N0 t with rfl | rfl | rfl | rfl | rfl | rfl | rfl | rfl <;> decide +kernel

/-- The body at point `t`, over the buffers it is on there. -/
theorem body_point (𝒱₀ : Variants) (c : Dev nD) (E : Set ℕ) (t : Fin cfg0.N)
    (X Y : Vec F S128x12544 .f32) (Z : Vec F S128x1 .i32) (s : Cols F) (P : Vec F S128x1 .i32) (R : Vec F S128x1 .f32)
    (K : PUnit → sProp 𝕄) :
    iprop(held (F := F) c (win0_0.stage (cfg0.slots t 0)) (win0_1.stage (cfg0.slots t 1)) (win0_2.stage (cfg0.slots t 2))
          (win0_3.stage (cfg0.slots t 3)) (win0_4.stage (cfg0.slots t 4)) (Memref.whole cc0_scratch0) (Memref.whole cc0_scratch1)
          (Memref.whole cc0_scratch2) (Memref.whole cc0_scratch3) X Y Z P R s
        ∗ (held (F := F) c (win0_0.stage (cfg0.slots t 0)) (win0_1.stage (cfg0.slots t 1)) (win0_2.stage (cfg0.slots t 2))
          (win0_3.stage (cfg0.slots t 3)) (win0_4.stage (cfg0.slots t 4)) (Memref.whole cc0_scratch0) (Memref.whole cc0_scratch1)
          (Memref.whole cc0_scratch2) (Memref.whole cc0_scratch3) X Y Z
          (pickedAt t P (next t X Y Z s)) (logProbAt t R (next t X Y Z s)) (next t X Y Z s) -∗ K ⟨⟩))
      ⊢ wp frame (wpE (defs₀ (F := F)) 𝒱₀ (c : Thread nD τ) none) E (bodyAt0 (F := F) t) K := by
  have h1 := isFirst_iff t
  have h2 := isInner_iff t
  have h3 := isLast_iff t
  unfold next pickedAt logProbAt
  rw [← coords_val t] at *
  by_cases hz : (grid0.coords t 0).val = 0
  · have hn : (grid0.coords t 0).val ≠ 7 := by omega
    rw [if_pos hz, if_neg hn, if_neg hn]
    exact body_first 𝒱₀ c E (grid0.coords t) _ _ _ _ _ _ _ _ _ _ _ _ _ _ _ _ _ _ X Y Z s P R (h1.2 hz) (h2.2 hn) (fun h => hn (h3.1 h)) K
  · by_cases hn : (grid0.coords t 0).val = 7
    · rw [if_neg hz, if_pos hn, if_pos hn, if_pos hn]
      exact body_last 𝒱₀ c E (grid0.coords t) _ _ _ _ _ _ _ _ _ _ _ _ _ _ _ _ _ _ X Y Z s P R (fun h => hz (h1.1 h)) (fun h => h2.1 h hn) (h3.2 hn) K
    · rw [if_neg hz, if_neg hn, if_neg hn, if_neg hn]
      exact body_inner 𝒱₀ c E (grid0.coords t) _ _ _ _ _ _ _ _ _ _ _ _ _ _ _ _ _ _ X Y Z s P R (fun h => hz (h1.1 h)) (h2.2 hn) (fun h => hn (h3.1 h)) K

/-- A scratch buffer whole at contents `f` is its memref owned at `f`, and back. -/
theorem scratch_owns (c : Dev nD) (b : Ref sig .tc) (f : Buf (Elt F) ((c : Thread nD τ).loc b)) :
    (iprop(((c : Thread nD τ).loc b) ↦{fullShare} f) : sProp 𝕄) ⊢ owns (c : Thread nD τ) (Memref.whole b) fullShare f := by
  rw [owns_whole_eq]
  iintro H
  iexists f
  isplitr
  · ipureintro; rfl
  · iexact H

theorem owns_scratch (c : Dev nD) (b : Ref sig .tc) (f : Buf (Elt F) ((c : Thread nD τ).loc b)) :
    owns (c : Thread nD τ) (Memref.whole b) fullShare f ⊢ (iprop(((c : Thread nD τ).loc b) ↦{fullShare} f) : sProp 𝕄) := by
  rw [owns_whole_eq]
  iintro ⟨%g, %hg, H⟩
  subst hg
  iexact H

end Cert.IdealBody

end
-- ==== Proof.IdealFrame.lean ====
/-
  The frame of the kernel, from any memory and at any float values: every run ends, the arguments are unchanged and
  no semaphore is left raised.
-/
module

public import proofs.«01_k».proof.Proof.IdealPoint

@[expose] public section

set_option maxRecDepth 16384

noncomputable section

namespace Cert.IdealBody

open Cert.KernelIdeal Cert.KernelIdeal.Gen Cert.Access
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, for an invariant and the contents of the two result arrays: the arrays as the region finds them,
    the staged blocks left in place, the result blocks as given. -/
def dats (Φ : Dev nD → Fin (cfg0.N + 1) → sProp 𝕄) (G3 : Dev nD → Vec F S128x1 .i32) (G4 : Dev nD → Vec F S128x1 .f32)
    (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => G3 c
    | ⟨4, _⟩ => G4 c
  Φ := Φ c
  q _ := fullShare
  owed _ := 0

variable (G3 : Dev nD → Vec F S128x1 .i32) (G4 : Dev nD → Vec F S128x1 .f32)

theorem before_0 (Φ : Dev nD → Fin (cfg0.N + 1) → sProp 𝕄) (c : Dev nD) (t : Fin cfg0.N) (d) :
    (dats m Φ G3 G4 0 c).before (0 : Fin 5) t d = win0_0.fill (grid0.coords t) d (iblk m c 0 t) := by
  unfold Dat.before; rw [if_pos (fetch0_0 t)]; rfl

theorem before_1 (Φ : Dev nD → Fin (cfg0.N + 1) → sProp 𝕄) (c : Dev nD) (t : Fin cfg0.N) (d) :
    (dats m Φ G3 G4 0 c).before (1 : Fin 5) t d = win0_1.fill (grid0.coords t) d (iblk m c 1 t) := by
  unfold Dat.before; rw [if_pos (fetch0_1 t)]; rfl

theorem before_2 (Φ : Dev nD → Fin (cfg0.N + 1) → sProp 𝕄) (c : Dev nD) (t : Fin cfg0.N) (d) :
    (dats m Φ G3 G4 0 c).before (2 : Fin 5) t d = iblk m c 2 t :=
  before0_2_of m (dats m Φ G3 G4 0 c) rfl (fun _ => rfl) t d

/-- Some columns held in the scratch buffers, and the generator's register. -/
theorem anyCols_of (c : Dev nD) :
    (Pipeline.ΦA (Val := Elt F) (U := UR sig nD τ) spec0 c : sProp 𝕄) ⊢ iprop((∃ s : Cols F,
      owns (c : Thread nD τ) (Memref.whole cc0_scratch0) fullShare s.sum ∗ owns (c : Thread nD τ) (Memref.whole cc0_scratch1) fullShare s.best
      ∗ owns (c : Thread nD τ) (Memref.whole cc0_scratch2) fullShare s.idx ∗ owns (c : Thread nD τ) (Memref.whole cc0_scratch3) fullShare s.act)
      ∗ ∃ r, prngReg c r) := by
  unfold Pipeline.ΦA
  rw [scopedRest0_eq]
  iintro ⟨⟨⟨%f0, H0⟩, ⟨%f1, H1⟩, ⟨%f2, H2⟩, ⟨%f3, H3⟩⟩, Hp⟩
  isplitl [H0 H1 H2 H3]
  · iexists (⟨f0, f1, f2, f3⟩ : Cols F)
    isplitl [H0]
    · iapply (scratch_owns (F := F) c cc0_scratch0 f0) $$ H0
    isplitl [H1]
    · iapply (scratch_owns (F := F) c cc0_scratch1 f1) $$ H1
    isplitl [H2]
    · iapply (scratch_owns (F := F) c cc0_scratch2 f2) $$ H2
    · iapply (scratch_owns (F := F) c cc0_scratch3 f3) $$ H3
  · iexact Hp

theorem anyCols_to (c : Dev nD) (s : Cols F) :
    iprop((owns (c : Thread nD τ) (Memref.whole cc0_scratch0) fullShare s.sum ∗ owns (c : Thread nD τ) (Memref.whole cc0_scratch1) fullShare s.best
      ∗ owns (c : Thread nD τ) (Memref.whole cc0_scratch2) fullShare s.idx ∗ owns (c : Thread nD τ) (Memref.whole cc0_scratch3) fullShare s.act)
      ∗ ∃ r, prngReg c r) ⊢ (Pipeline.ΦA (Val := Elt F) (U := UR sig nD τ) spec0 c : sProp 𝕄) := by
  unfold Pipeline.ΦA
  rw [scopedRest0_eq]
  iintro ⟨⟨H0, H1, H2, H3⟩, Hp⟩
  isplitl [H0 H1 H2 H3]
  · isplitl [H0]
    · iexists s.sum; iapply (owns_scratch (F := F) c cc0_scratch0 s.sum) $$ H0
    isplitl [H1]
    · iexists s.best; iapply (owns_scratch (F := F) c cc0_scratch1 s.best) $$ H1
    isplitl [H2]
    · iexists s.idx; iapply (owns_scratch (F := F) c cc0_scratch2 s.idx) $$ H2
    · iexists s.act; iapply (owns_scratch (F := F) c cc0_scratch3 s.act) $$ H3
  · iexact Hp

/-- The invariant of the frame: the scratch buffers at anything. -/
abbrev ΦF : Dev nD → Fin (cfg0.N + 1) → sProp 𝕄 := fun c _ => Pipeline.ΦA (Val := Elt F) (U := UR sig nD τ) spec0 c

/-- The result windows, of which the frame says nothing. -/
def outs : Fin cfg0.W → Bool := fun w => match w with
  | ⟨0, _⟩ => false | ⟨1, _⟩ => false | ⟨2, _⟩ => false | ⟨3, _⟩ => true | ⟨4, _⟩ => true

set_option maxHeartbeats 4000000 in
theorem body_frame (c : Dev nD) :
    BodyObligationLoose (dats m ΦF G3 G4 0 c) (defs₀ (F := F)) Variants.none () Set.univ outs := fun t => by
  rw [bigSep_W0, bigSep_W0]
  simp only [outs]
  rw [show (dats m ΦF G3 G4 0 c).Φ t.succ = Pipeline.ΦA (Val := Elt F) (U := UR sig nD τ) spec0 c from rfl,
    show (dats m ΦF G3 G4 0 c).Φ t.castSucc = Pipeline.ΦA (Val := Elt F) (U := UR sig nD τ) spec0 c from rfl,
    show (dats m ΦF G3 G4 0 c).owesAt () t.succ = (dats m ΦF G3 G4 0 c).owesAt () t.castSucc from rfl]
  iintro ⟨HΦ, Ho, ⟨%d1, H1⟩, ⟨%d2, H2⟩, ⟨%d3, H3⟩, ⟨%P, H4⟩, ⟨%R, H5⟩⟩
  ihave HC := (anyCols_of (F := F) c) $$ HΦ
  icases HC with ⟨⟨%s, H6, H7, H8, H9⟩, Hp⟩
  rw [before_0 m G3 G4 ΦF c t d1, before_1 m G3 G4 ΦF c t d2, before_2 m G3 G4 ΦF c t d3]
  iapply (body_point (F := F) Variants.none c Set.univ t (win0_0.fill (grid0.coords t) d1 (iblk m c 0 t))
    (win0_1.fill (grid0.coords t) d2 (iblk m c 1 t)) (iblk m c 2 t) s P R _)
  isplitl [H1 H2 H3 H4 H5 H6 H7 H8 H9]
  · simp only [held]
    iframe
  simp only [held]
  iintro ⟨H1, H2, H3, H4, H5, H6, H7, H8, H9⟩
  isplitl [H6 H7 H8 H9 Hp]
  · iapply (anyCols_to (F := F) c _)
    iframe
  isplitl [Ho]; · iexact Ho
  isplitl [H1]
  · iexists d1
    change _ ⊢ owns (c : Thread nD τ) (win0_0.stage (cfg0.slots t 0)) fullShare (win0_0.fill (grid0.coords t) d1 (win0_0.cut (grid0.coords t)
      (win0_0.fill (grid0.coords t) (fun _ => Scalar.ofBits .f32 0#32) (iblk m c 0 t))))
    rw [win0_0.cut_fill]; try iexact H1
  isplitl [H2]
  · iexists d2
    change _ ⊢ owns (c : Thread nD τ) (win0_1.stage (cfg0.slots t 1)) fullShare (win0_1.fill (grid0.coords t) d2 (win0_1.cut (grid0.coords t)
      (win0_1.fill (grid0.coords t) (fun _ => Scalar.ofBits .f32 0#32) (iblk m c 1 t))))
    rw [win0_1.cut_fill]; try iexact H2
  isplitl [H3]
  · iexact H3
  isplitl [H4]
  · iexists _; iexact H4
  · iexists _; iexact H5

/-- What the lines after the region write. -/
def written : Finset (Ref sig .tc) := {main_v2, main_v3}

set_option backward.isDefEq.respectTransparency.types false in
set_option maxHeartbeats 4000000 in
/-- From any memory with zero counters every run of the kernel ends with its arguments unchanged and every counter
    at zero. -/
theorem run_frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_T_track_forget cfgs
    (dats m ΦF (fun _ _ => 0#32) (fun _ _ => Scalar.ofBits .f32 0#32)) 0 launch0 defs₀ Variants.none outs written m g main
    (hbody := fun c => body_frame m _ _ c)
    (hshare := fun c => (dats m ΦF (fun _ _ => 0#32) (fun _ _ => Scalar.ofBits .f32 0#32) 0 c).share_full fun _ => rfl)
    (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, _root_.or_false] at hops
      subst hops
      simp only [hostOps1, List.mem_cons, List.mem_nil_iff, _root_.or_false] at hop
      rcases hop with rfl | rfl
      all_goals
        rw [StableHlo.reshape_writes, Finset.mem_singleton] at hb
        have hb' := Proc.devRef_injective _ hb
        subst hb'
        decide)
    (hmain := hmain m Variants.none) (hA := fun _ _ => rfl)
    (hin := fun _ => Entails.refl _) (hout := fun _ => Entails.refl _)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)
    (hQ' := fun r h => ⟨fun c => ⟨(h.1.arr_in c 0 rfl).trans (V_main_arg0 m c), (h.1.arr_in c 1 rfl).trans (V_main_arg1 m c),
      ((h.1 c).2 main_arg2 (Finset.mem_sdiff.mpr ⟨Pipeline.mem_restRefs_of main_arg2 (by decide) (by decide), by decide⟩)).trans
        (V_main_arg2 m c)⟩, h.2⟩)

end Cert.IdealBody

end
-- ==== Proof.RefTerms.lean ====
/-
  What the references compute, as terms over their arguments, one name per step of reference.py.
-/
module

public import proofs.«01_k».proof.Proof.Gen.ReferenceIdeal
public import Idealize.ShloMosaic.Lib.StableHlo.Run

@[expose] public section

noncomputable section

namespace Cert.RefTerms

open Cert.ReferenceIdeal Cert.ReferenceIdeal.Gen Idealize.ShloMosaic Idealize.ShloMosaic.TcCoe Idealize.SL.Sem Idealize.ShloMosaic.StableHlo

variable {F : FTy → Type} [FloatOps F]

/-- The greatest logit of each row. -/
def top (x : Vec F S128x100000 .f32) : Vec F S128 .f32 :=
  maximumf (broadcastInDim S128 ![] bcast_S_S128 (constant S_ .f32 0xFF800000#32))
    (Host.reduce FloatOps.maximumf x (constant S_ .f32 0xFF800000#32) reducesTo_S128x100000_S128_d1 h_S_)

/-- One value per row, on every column of it. -/
def spread (v : Vec F S128 .f32) : Vec F S128x100000 .f32 :=
  broadcastInDim S128x100000 ![0, 1] bcast_S128x1_S128x100000_0_1 (broadcastInDim S128x1 ![0] bcast_S128_S128x1_0 v)

/-- One constant everywhere. -/
def splat (w : BitVec 32) : Vec F S128x100000 .f32 :=
  broadcastInDim S128x100000 ![] bcast_S_S128x100000 (constant S_ .f32 w)

/-- The logits less their row's greatest. -/
def shifted (x : Vec F S128x100000 .f32) : Vec F S128x100000 .f32 := subf x (spread (top x))

/-- The row sums of the shifted exponentials. -/
def total (x : Vec F S128x100000 .f32) : Vec F S128 .f32 :=
  Host.reduceAdd (Host.exp (shifted x)) (constant S_ .f32 0x00000000#32) reducesTo_S128x100000_S128_d1 h_S_

/-- The softmax. -/
def probs (x : Vec F S128x100000 .f32) : Vec F S128x100000 .f32 := Host.divf (Host.exp (shifted x)) (spread (total x))

/-- The Gumbel noise. -/
def gumbel (n : Vec F S128x100000 .f32) : Vec F S128x100000 .f32 :=
  Host.negf (Host.log (addf (Host.negf (Host.log (addf n (splat 0x2EDBE6FF#32)))) (splat 0x2EDBE6FF#32)))

/-- What is sampled by: the logarithm of `q` with the noise on it. -/
def keyOf (q n : Vec F S128x100000 .f32) : Vec F S128x100000 .f32 := addf (Host.log q) (gumbel n)

/-- The column of each row's greatest entry. -/
def firstBest (k : Vec F S128x100000 .f32) : Vec F S128 .i32 := fun j =>
  (Host.argReduce reducer_argmax_f32_i32 k (iotaInDim S128x100000 32 1) (constant S_ .f32 0xFF800000#32) (constantI S_ 32 0#32)
    reducesTo_S128x100000_S128_d1 h_S_ j).2

/-- The logarithm of the softmax. -/
def logProbs (x : Vec F S128x100000 .f32) : Vec F S128x100000 .f32 :=
  subf (shifted x) (broadcastInDim S128x100000 ![0, 1] bcast_S128x1_S128x100000_0_1
    (Host.log (broadcastInDim S128x1 ![0] bcast_S128_S128x1_0 (total x))))

/-- Where each row's action lies in the flattened array. -/
def place (a : Vec F S128 .i32) : Vec F S128 .i32 :=
  addi (muli (iotaInDim S128 32 0) (broadcastInDim S128 ![] bcast_S_S128 (constantI S_ 32 100000#32))) a

/-- The same, a negative one counted from the end. -/
def wrapped (a : Vec F S128 .i32) : Vec F S128x1 .i32 :=
  broadcastInDim S128x1 ![0] bcast_S128_S128x1_0
    (select (cmpi .slt (place (F := F) a) (broadcastInDim S128 ![] bcast_S_S128 (constantI S_ 32 0#32)))
      (addi (place (F := F) a) (broadcastInDim S128 ![] bcast_S_S128 (constantI S_ 32 12800000#32))) (place (F := F) a))

/-- Whether it lies inside. -/
def inside (a : Vec F S128 .i32) : Vec F S128 .i1 :=
  Host.reduce IntOp.andi (andi (cmpi .sge (wrapped (F := F) a) (broadcastInDim S128x1 ![] bcast_S_S128x1 (constantI S_ 32 0#32)))
    (cmpi .sle (wrapped (F := F) a) (broadcastInDim S128x1 ![0, 1] bcast_S1x1_S128x1_0_1 (broadcastInDim S1x1 ![1] bcast_S1_S1x1_1 (constantI S1 32 12799999#32)))))
    (constantI S_ 1 1#1) reducesTo_S128x1_S128_d1 h_S_

/-- Each row's entry at its action. -/
def taken (L : Vec F S128x100000 .f32) (a : Vec F S128 .i32) : Vec F S128 .f32 :=
  select (inside (F := F) a) (Host.gather gather_S12800000_S128x1_S128_n_0_n_n_0_1_1
      (shapeCast S12800000 L shapeCasts_S128x100000_S12800000) (wrapped (F := F) a))
    (broadcastInDim S128 ![] bcast_S_S128 (constant S_ .f32 0x7FC00000#32))

end Cert.RefTerms

end
-- ==== Proof.RefRun.lean ====
/-
  The reference's run: what its two results hold when it ends.
-/
module

public import proofs.«01_k».proof.Proof.RefTerms
public import proofs.«01_k».proof.Proof.Gen.ReferenceIdeal
public import Idealize.ShloMosaic.Lib.StableHlo.Run

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The program's 77 operations in order, those of the functions it calls in their calls' place. -/
abbrev ops : List (HloOp τ sig (Elt F)) :=
  [ nullary main_cst (constant S_ .f32 0xFF800000#32),
    binary main_arg0 main_cst main_v0 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_0 (constant S_ .f32 0xFF800000#32),
    unary main_cst_0 main_v1 (broadcastInDim S128 ![] bcast_S_S128 : (⟨S_, .f32⟩ : BufTy).Contents (Elt F) → (⟨S128, .f32⟩ : BufTy).Contents (Elt F)),
    binary main_v1 main_v0 main_v2 (maximumf : (⟨S128, .f32⟩ : BufTy).Contents (Elt F) → (⟨S128, .f32⟩ : BufTy).Contents (Elt F) → (⟨S128, .f32⟩ : BufTy).Contents (Elt F)),
    unary main_v2 main_v3 (broadcastInDim S128x1 ![0] bcast_S128_S128x1_0 : (⟨S128, .f32⟩ : BufTy).Contents (Elt F) → (⟨S128x1, .f32⟩ : BufTy).Contents (Elt F)),
    unary main_v3 main_v4 (broadcastInDim S128x100000 ![0, 1] bcast_S128x1_S128x100000_0_1 : (⟨S128x1, .f32⟩ : BufTy).Contents (Elt F) → (⟨S128x100000, .f32⟩ : BufTy).Contents (Elt F)),
    binary main_arg0 main_v4 main_v5 (subf : (⟨S128x100000, .f32⟩ : BufTy).Contents (Elt F) → (⟨S128x100000, .f32⟩ : BufTy).Contents (Elt F) → (⟨S128x100000, .f32⟩ : BufTy).Contents (Elt F)),
    unary main_v5 main_v6 (Host.exp : (⟨S128x100000, .f32⟩ : BufTy).Contents (Elt F) → (⟨S128x100000, .f32⟩ : BufTy).Contents (Elt F)),
    nullary main_cst_1 (constant S_ .f32 0x00000000#32),
    binary main_v6 main_cst_1 main_v7 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v7 main_v8 (broadcastInDim S128x1 ![0] bcast_S128_S128x1_0 : (⟨S128, .f32⟩ : BufTy).Contents (Elt F) → (⟨S128x1, .f32⟩ : BufTy).Contents (Elt F)),
    unary main_v8 main_v9 (broadcastInDim S128x100000 ![0, 1] bcast_S128x1_S128x100000_0_1 : (⟨S128x1, .f32⟩ : BufTy).Contents (Elt F) → (⟨S128x100000, .f32⟩ : BufTy).Contents (Elt F)),
    binary main_v6 main_v9 main_v10 (Host.divf : (⟨S128x100000, .f32⟩ : BufTy).Contents (Elt F) → (⟨S128x100000, .f32⟩ : BufTy).Contents (Elt F) → (⟨S128x100000, .f32⟩ : BufTy).Contents (Elt F)),
    nullary main_cst_2 (constant S_ .f32 0x2EDBE6FF#32),
    unary main_cst_2 main_v11 (broadcastInDim S128x100000 ![] bcast_S_S128x100000 : (⟨S_, .f32⟩ : BufTy).Contents (Elt F) → (⟨S128x100000, .f32⟩ : BufTy).Contents (Elt F)),
    binary main_arg1 main_v11 main_v12 (addf : (⟨S128x100000, .f32⟩ : BufTy).Contents (Elt F) → (⟨S128x100000, .f32⟩ : BufTy).Contents (Elt F) → (⟨S128x100000, .f32⟩ : BufTy).Contents (Elt F)),
    unary main_v12 main_v13 (Host.log : (⟨S128x100000, .f32⟩ : BufTy).Contents (Elt F) → (⟨S128x100000, .f32⟩ : BufTy).Contents (Elt F)),
    unary main_v13 main_v14 (Host.negf : (⟨S128x100000, .f32⟩ : BufTy).Contents (Elt F) → (⟨S128x100000, .f32⟩ : BufTy).Contents (Elt F)),
    nullary main_cst_3 (constant S_ .f32 0x2EDBE6FF#32),
    unary main_cst_3 main_v15 (broadcastInDim S128x100000 ![] bcast_S_S128x100000 : (⟨S_, .f32⟩ : BufTy).Contents (Elt F) → (⟨S128x100000, .f32⟩ : BufTy).Contents (Elt F)),
    binary main_v14 main_v15 main_v16 (addf : (⟨S128x100000, .f32⟩ : BufTy).Contents (Elt F) → (⟨S128x100000, .f32⟩ : BufTy).Contents (Elt F) → (⟨S128x100000, .f32⟩ : BufTy).Contents (Elt F)),
    unary main_v16 main_v17 (Host.log : (⟨S128x100000, .f32⟩ : BufTy).Contents (Elt F) → (⟨S128x100000, .f32⟩ : BufTy).Contents (Elt F)),
    unary main_v17 main_v18 (Host.negf : (⟨S128x100000, .f32⟩ : BufTy).Contents (Elt F) → (⟨S128x100000, .f32⟩ : BufTy).Contents (Elt F)),
    nullary main_cst_4 (constant S_ .f32 0x1E3CE508#32),
    unary main_cst_4 main_v19 (broadcastInDim S128x100000 ![] bcast_S_S128x100000 : (⟨S_, .f32⟩ : BufTy).Contents (Elt F) → (⟨S128x100000, .f32⟩ : BufTy).Contents (Elt F)),
    binary main_v10 main_v19 main_v20 (addf : (⟨S128x100000, .f32⟩ : BufTy).Contents (Elt F) → (⟨S128x100000, .f32⟩ : BufTy).Contents (Elt F) → (⟨S128x100000, .f32⟩ : BufTy).Contents (Elt F)),
    unary main_v20 main_v21 (Host.log : (⟨S128x100000, .f32⟩ : BufTy).Contents (Elt F) → (⟨S128x100000, .f32⟩ : BufTy).Contents (Elt F)),
    binary main_v21 main_v18 main_v22 (addf : (⟨S128x100000, .f32⟩ : BufTy).Contents (Elt F) → (⟨S128x100000, .f32⟩ : BufTy).Contents (Elt F) → (⟨S128x100000, .f32⟩ : BufTy).Contents (Elt F)),
    TRef.nullary (TRef.of (T := ⟨S128x100000, .i32⟩) main_call0_v0) (iotaInDim S128x100000 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S128x100000, .f32⟩) main_v22) (TRef.of (T := ⟨S128x100000, .i32⟩) main_call0_v0) (TRef.of (T := ⟨S_, .f32⟩) main_call0_cst) (TRef.of (T := ⟨S_, .i32⟩) main_call0_c) (TRef.of (T := ⟨S128, .f32⟩) main_call0_v1_0) (fun x y u v j => (Host.argReduce reducer_argmax_f32_i32 x y u v reducesTo_S128x100000_S128_d1 h_S_ j).1),
    TRef.quaternary (TRef.of (T := ⟨S128x100000, .f32⟩) main_v22) (TRef.of (T := ⟨S128x100000, .i32⟩) main_call0_v0) (TRef.of (T := ⟨S_, .f32⟩) main_call0_cst) (TRef.of (T := ⟨S_, .i32⟩) main_call0_c) (TRef.of (T := ⟨S128, .i32⟩) main_v23) (fun x y u v j => (Host.argReduce reducer_argmax_f32_i32 x y u v reducesTo_S128x100000_S128_d1 h_S_ j).2),
    TRef.nullary (TRef.of (T := ⟨S_, .f32⟩) main_call1_cst) (constant S_ .f32 0xFF800000#32),
    TRef.binary (TRef.of (T := ⟨S128x100000, .f32⟩) main_arg0) (TRef.of (T := ⟨S_, .f32⟩) main_call1_cst) (TRef.of (T := ⟨S128, .f32⟩) main_call1_v0) (fun x v => Host.reduce FloatOps.maximumf x v reducesTo_S128x100000_S128_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S128, .f32⟩) main_call1_v1) (broadcastInDim S128 ![] bcast_S_S128),
    TRef.binary (TRef.of (T := ⟨S128, .f32⟩) main_call1_v1) (TRef.of (T := ⟨S128, .f32⟩) main_call1_v0) (TRef.of (T := ⟨S128, .f32⟩) main_call1_v2) maximumf,
    TRef.unary (TRef.of (T := ⟨S128, .f32⟩) main_call1_v2) (TRef.of (T := ⟨S128x1, .f32⟩) main_call1_v3) (broadcastInDim S128x1 ![0] bcast_S128_S128x1_0),
    TRef.unary (TRef.of (T := ⟨S128x1, .f32⟩) main_call1_v3) (TRef.of (T := ⟨S128x100000, .f32⟩) main_call1_v4) (broadcastInDim S128x100000 ![0, 1] bcast_S128x1_S128x100000_0_1),
    TRef.binary (TRef.of (T := ⟨S128x100000, .f32⟩) main_arg0) (TRef.of (T := ⟨S128x100000, .f32⟩) main_call1_v4) (TRef.of (T := ⟨S128x100000, .f32⟩) main_call1_v5) subf,
    TRef.unary (TRef.of (T := ⟨S128x100000, .f32⟩) main_call1_v5) (TRef.of (T := ⟨S128x100000, .f32⟩) main_call1_v6) Host.exp,
    TRef.nullary (TRef.of (T := ⟨S_, .f32⟩) main_call1_cst_1) (constant S_ .f32 0x00000000#32),
    TRef.binary (TRef.of (T := ⟨S128x100000, .f32⟩) main_call1_v6) (TRef.of (T := ⟨S_, .f32⟩) main_call1_cst_1) (TRef.of (T := ⟨S128, .f32⟩) main_call1_v7) (fun x v => Host.reduceAdd x v reducesTo_S128x100000_S128_d1 h_S_),
    TRef.unary (TRef.of (T := ⟨S128, .f32⟩) main_call1_v7) (TRef.of (T := ⟨S128x1, .f32⟩) main_call1_v8) (broadcastInDim S128x1 ![0] bcast_S128_S128x1_0),
    TRef.unary (TRef.of (T := ⟨S128x1, .f32⟩) main_call1_v8) (TRef.of (T := ⟨S128x1, .f32⟩) main_call1_v9) Host.log,
    TRef.unary (TRef.of (T := ⟨S128x1, .f32⟩) main_call1_v9) (TRef.of (T := ⟨S128x100000, .f32⟩) main_call1_v10) (broadcastInDim S128x100000 ![0, 1] bcast_S128x1_S128x100000_0_1),
    TRef.binary (TRef.of (T := ⟨S128x100000, .f32⟩) main_call1_v5) (TRef.of (T := ⟨S128x100000, .f32⟩) main_call1_v10) (TRef.of (T := ⟨S128x100000, .f32⟩) main_v24) subf,
    nullary main_v25 (iotaInDim S128 32 0),
    nullary main_c (constantI S_ 32 100000#32),
    unary main_c main_v26 (broadcastInDim S128 ![] bcast_S_S128 : (⟨S_, .i32⟩ : BufTy).Contents (Elt F) → (⟨S128, .i32⟩ : BufTy).Contents (Elt F)),
    binary main_v25 main_v26 main_v27 (muli : (⟨S128, .i32⟩ : BufTy).Contents (Elt F) → (⟨S128, .i32⟩ : BufTy).Contents (Elt F) → (⟨S128, .i32⟩ : BufTy).Contents (Elt F)),
    binary main_v27 main_arg2 main_v28 (addi : (⟨S128, .i32⟩ : BufTy).Contents (Elt F) → (⟨S128, .i32⟩ : BufTy).Contents (Elt F) → (⟨S128, .i32⟩ : BufTy).Contents (Elt F)),
    reshape main_v24 main_v29 (rfl : (.f32 : EltTy) = .f32) shapeCasts_S128x100000_S12800000,
    TRef.nullary (TRef.of (T := ⟨S_, .i32⟩) main_call2_c) (constantI S_ 32 0#32),
    TRef.unary (TRef.of (T := ⟨S_, .i32⟩) main_call2_c) (TRef.of (T := ⟨S128, .i32⟩) main_call2_v0) (broadcastInDim S128 ![] bcast_S_S128),
    TRef.binary (TRef.of (T := ⟨S128, .i32⟩) main_v28) (TRef.of (T := ⟨S128, .i32⟩) main_call2_v0) (TRef.of (T := ⟨S128, .i1⟩) main_call2_v1) (cmpi .slt),
    TRef.nullary (TRef.of (T := ⟨S_, .i32⟩) main_call2_c_0) (constantI S_ 32 12800000#32),
    TRef.unary (TRef.of (T := ⟨S_, .i32⟩) main_call2_c_0) (TRef.of (T := ⟨S128, .i32⟩) main_call2_v2) (broadcastInDim S128 ![] bcast_S_S128),
    TRef.binary (TRef.of (T := ⟨S128, .i32⟩) main_v28) (TRef.of (T := ⟨S128, .i32⟩) main_call2_v2) (TRef.of (T := ⟨S128, .i32⟩) main_call2_v3) addi,
    TRef.ternary (TRef.of (T := ⟨S128, .i1⟩) main_call2_v1) (TRef.of (T := ⟨S128, .i32⟩) main_call2_v3) (TRef.of (T := ⟨S128, .i32⟩) main_v28) (TRef.of (T := ⟨S128, .i32⟩) main_call2_v4) select,
    TRef.unary (TRef.of (T := ⟨S128, .i32⟩) main_call2_v4) (TRef.of (T := ⟨S128x1, .i32⟩) main_call2_v5) (broadcastInDim S128x1 ![0] bcast_S128_S128x1_0),
    TRef.nullary (TRef.of (T := ⟨S1, .i32⟩) main_call2_c_1) (constantI S1 32 12799999#32),
    TRef.nullary (TRef.of (T := ⟨S_, .i32⟩) main_call2_c_2) (constantI S_ 32 0#32),
    TRef.unary (TRef.of (T := ⟨S_, .i32⟩) main_call2_c_2) (TRef.of (T := ⟨S128x1, .i32⟩) main_call2_v6) (broadcastInDim S128x1 ![] bcast_S_S128x1),
    TRef.binary (TRef.of (T := ⟨S128x1, .i32⟩) main_call2_v5) (TRef.of (T := ⟨S128x1, .i32⟩) main_call2_v6) (TRef.of (T := ⟨S128x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S128x1, .i32⟩) main_call2_v9) (broadcastInDim S128x1 ![0, 1] bcast_S1x1_S128x1_0_1),
    TRef.binary (TRef.of (T := ⟨S128x1, .i32⟩) main_call2_v5) (TRef.of (T := ⟨S128x1, .i32⟩) main_call2_v9) (TRef.of (T := ⟨S128x1, .i1⟩) main_call2_v10) (cmpi .sle),
    TRef.binary (TRef.of (T := ⟨S128x1, .i1⟩) main_call2_v7) (TRef.of (T := ⟨S128x1, .i1⟩) main_call2_v10) (TRef.of (T := ⟨S128x1, .i1⟩) main_call2_v11) andi,
    TRef.nullary (TRef.of (T := ⟨S_, .i1⟩) main_call2_c_3) (constantI S_ 1 1#1),
    TRef.binary (TRef.of (T := ⟨S128x1, .i1⟩) main_call2_v11) (TRef.of (T := ⟨S_, .i1⟩) main_call2_c_3) (TRef.of (T := ⟨S128, .i1⟩) main_call2_v12) (fun x v => Host.reduce IntOp.andi x v reducesTo_S128x1_S128_d1 h_S_),
    TRef.binary (TRef.of (T := ⟨S12800000, .f32⟩) main_v29) (TRef.of (T := ⟨S128x1, .i32⟩) main_call2_v5) (TRef.of (T := ⟨S128, .f32⟩) main_call2_v13) (fun x i => Host.gather gather_S12800000_S128x1_S128_n_0_n_n_0_1_1 x i),
    TRef.nullary (TRef.of (T := ⟨S_, .f32⟩) main_call2_cst) (constant S_ .f32 0x7FC00000#32),
    TRef.unary (TRef.of (T := ⟨S_, .f32⟩) main_call2_cst) (TRef.of (T := ⟨S128, .f32⟩) main_call2_v14) (broadcastInDim S128 ![] bcast_S_S128),
    TRef.ternary (TRef.of (T := ⟨S128, .i1⟩) main_call2_v12) (TRef.of (T := ⟨S128, .f32⟩) main_call2_v13) (TRef.of (T := ⟨S128, .f32⟩) main_call2_v14) (TRef.of (T := ⟨S128, .f32⟩) main_v30) select ]

set_option maxRecDepth 8192 in
set_option maxHeartbeats 4000000 in
/-- The program runs them. -/
theorem main_eq (c : Dev nD) : main (F := F) c = seq ops := rfl

theorem no_scoped : (Finset.univ.filter fun b : Ref sig .tc => b.isScoped) = ∅ := by decide
theorem no_scoped_sem : (Finset.univ.filter fun sm : SemLoc sig => sm.isScoped .tc) = ∅ := by decide

/-- The program has no semaphore. -/
theorem no_sem (sm : SemLoc sig) : False := by
  cases sm with
  | reg s => exact s.elim0
  | dma s => exact s.elim0

set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
set_option maxHeartbeats 30000000 in
/-- From any memory with zero counters every run ends with the two results at these terms of the arguments, the
    arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v23) = RefTerms.firstBest (RefTerms.keyOf (addf (RefTerms.probs (m ((c.tc : Thread nD τ).loc main_arg0))) (RefTerms.splat 0x1E3CE508#32)) (m ((c.tc : Thread nD τ).loc main_arg1)))
      ∧ r.2.mem ((c.tc : Thread nD τ).loc main_v30) = RefTerms.taken (RefTerms.logProbs (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨(h c main_v23).trans (by simp only [ops, TRef.binary, TRef.nullary, TRef.ternary, TRef.quaternary, TRef.unary, TRef.toBuf, TRef.ofBuf, cast_eq]; after_results_simp <;> rfl),
      (h c main_v30).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl)⟩, funext fun g => (no_sem g.2).elim⟩)
    (run_seq no_scoped no_scoped_sem defs main (fun _ => ops) main_eq (fun _ => ops_sub) m ρ)

end Cert.ReferenceIdeal.Run

end
-- ==== Proof.UnguardedRun.lean ====
/-
  The run of the reference without the guard inside the logarithm: what its two results hold when it ends.
-/
module

public import proofs.«01_k».proof.Proof.RefTerms
public import proofs.«01_k».proof.Proof.Gen.UnguardedIdeal
public import Idealize.ShloMosaic.Lib.StableHlo.Run

@[expose] public section

noncomputable section

namespace Cert.UnguardedIdeal.Run

open Cert.UnguardedIdeal Cert.UnguardedIdeal.Gen Idealize.ShloMosaic Idealize.ShloMosaic.TcCoe Idealize.SL.Sem Idealize.ShloMosaic.StableHlo

variable {F : FTy → Type} [FloatOps F]

/-- The program's 74 operations in order, those of the functions it calls in their calls' place. -/
abbrev ops : List (HloOp τ sig (Elt F)) :=
  [ nullary main_cst (constant S_ .f32 0xFF800000#32),
    binary main_arg0 main_cst main_v0 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_0 (constant S_ .f32 0xFF800000#32),
    unary main_cst_0 main_v1 (broadcastInDim S128 ![] bcast_S_S128 : (⟨S_, .f32⟩ : BufTy).Contents (Elt F) → (⟨S128, .f32⟩ : BufTy).Contents (Elt F)),
    binary main_v1 main_v0 main_v2 (maximumf : (⟨S128, .f32⟩ : BufTy).Contents (Elt F) → (⟨S128, .f32⟩ : BufTy).Contents (Elt F) → (⟨S128, .f32⟩ : BufTy).Contents (Elt F)),
    unary main_v2 main_v3 (broadcastInDim S128x1 ![0] bcast_S128_S128x1_0 : (⟨S128, .f32⟩ : BufTy).Contents (Elt F) → (⟨S128x1, .f32⟩ : BufTy).Contents (Elt F)),
    unary main_v3 main_v4 (broadcastInDim S128x100000 ![0, 1] bcast_S128x1_S128x100000_0_1 : (⟨S128x1, .f32⟩ : BufTy).Contents (Elt F) → (⟨S128x100000, .f32⟩ : BufTy).Contents (Elt F)),
    binary main_arg0 main_v4 main_v5 (subf : (⟨S128x100000, .f32⟩ : BufTy).Contents (Elt F) → (⟨S128x100000, .f32⟩ : BufTy).Contents (Elt F) → (⟨S128x100000, .f32⟩ : BufTy).Contents (Elt F)),
    unary main_v5 main_v6 (Host.exp : (⟨S128x100000, .f32⟩ : BufTy).Contents (Elt F) → (⟨S128x100000, .f32⟩ : BufTy).Contents (Elt F)),
    nullary main_cst_1 (constant S_ .f32 0x00000000#32),
    binary main_v6 main_cst_1 main_v7 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v7 main_v8 (broadcastInDim S128x1 ![0] bcast_S128_S128x1_0 : (⟨S128, .f32⟩ : BufTy).Contents (Elt F) → (⟨S128x1, .f32⟩ : BufTy).Contents (Elt F)),
    unary main_v8 main_v9 (broadcastInDim S128x100000 ![0, 1] bcast_S128x1_S128x100000_0_1 : (⟨S128x1, .f32⟩ : BufTy).Contents (Elt F) → (⟨S128x100000, .f32⟩ : BufTy).Contents (Elt F)),
    binary main_v6 main_v9 main_v10 (Host.divf : (⟨S128x100000, .f32⟩ : BufTy).Contents (Elt F) → (⟨S128x100000, .f32⟩ : BufTy).Contents (Elt F) → (⟨S128x100000, .f32⟩ : BufTy).Contents (Elt F)),
    nullary main_cst_2 (constant S_ .f32 0x2EDBE6FF#32),
    unary main_cst_2 main_v11 (broadcastInDim S128x100000 ![] bcast_S_S128x100000 : (⟨S_, .f32⟩ : BufTy).Contents (Elt F) → (⟨S128x100000, .f32⟩ : BufTy).Contents (Elt F)),
    binary main_arg1 main_v11 main_v12 (addf : (⟨S128x100000, .f32⟩ : BufTy).Contents (Elt F) → (⟨S128x100000, .f32⟩ : BufTy).Contents (Elt F) → (⟨S128x100000, .f32⟩ : BufTy).Contents (Elt F)),
    unary main_v12 main_v13 (Host.log : (⟨S128x100000, .f32⟩ : BufTy).Contents (Elt F) → (⟨S128x100000, .f32⟩ : BufTy).Contents (Elt F)),
    unary main_v13 main_v14 (Host.negf : (⟨S128x100000, .f32⟩ : BufTy).Contents (Elt F) → (⟨S128x100000, .f32⟩ : BufTy).Contents (Elt F)),
    nullary main_cst_3 (constant S_ .f32 0x2EDBE6FF#32),
    unary main_cst_3 main_v15 (broadcastInDim S128x100000 ![] bcast_S_S128x100000 : (⟨S_, .f32⟩ : BufTy).Contents (Elt F) → (⟨S128x100000, .f32⟩ : BufTy).Contents (Elt F)),
    binary main_v14 main_v15 main_v16 (addf : (⟨S128x100000, .f32⟩ : BufTy).Contents (Elt F) → (⟨S128x100000, .f32⟩ : BufTy).Contents (Elt F) → (⟨S128x100000, .f32⟩ : BufTy).Contents (Elt F)),
    unary main_v16 main_v17 (Host.log : (⟨S128x100000, .f32⟩ : BufTy).Contents (Elt F) → (⟨S128x100000, .f32⟩ : BufTy).Contents (Elt F)),
    unary main_v17 main_v18 (Host.negf : (⟨S128x100000, .f32⟩ : BufTy).Contents (Elt F) → (⟨S128x100000, .f32⟩ : BufTy).Contents (Elt F)),
    unary main_v10 main_v19 (Host.log : (⟨S128x100000, .f32⟩ : BufTy).Contents (Elt F) → (⟨S128x100000, .f32⟩ : BufTy).Contents (Elt F)),
    binary main_v19 main_v18 main_v20 (addf : (⟨S128x100000, .f32⟩ : BufTy).Contents (Elt F) → (⟨S128x100000, .f32⟩ : BufTy).Contents (Elt F) → (⟨S128x100000, .f32⟩ : BufTy).Contents (Elt F)),
    TRef.nullary (TRef.of (T := ⟨S128x100000, .i32⟩) main_call0_v0) (iotaInDim S128x100000 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S128x100000, .f32⟩) main_v20) (TRef.of (T := ⟨S128x100000, .i32⟩) main_call0_v0) (TRef.of (T := ⟨S_, .f32⟩) main_call0_cst) (TRef.of (T := ⟨S_, .i32⟩) main_call0_c) (TRef.of (T := ⟨S128, .f32⟩) main_call0_v1_0) (fun x y u v j => (Host.argReduce reducer_argmax_f32_i32 x y u v reducesTo_S128x100000_S128_d1 h_S_ j).1),
    TRef.quaternary (TRef.of (T := ⟨S128x100000, .f32⟩) main_v20) (TRef.of (T := ⟨S128x100000, .i32⟩) main_call0_v0) (TRef.of (T := ⟨S_, .f32⟩) main_call0_cst) (TRef.of (T := ⟨S_, .i32⟩) main_call0_c) (TRef.of (T := ⟨S128, .i32⟩) main_v21) (fun x y u v j => (Host.argReduce reducer_argmax_f32_i32 x y u v reducesTo_S128x100000_S128_d1 h_S_ j).2),
    TRef.nullary (TRef.of (T := ⟨S_, .f32⟩) main_call1_cst) (constant S_ .f32 0xFF800000#32),
    TRef.binary (TRef.of (T := ⟨S128x100000, .f32⟩) main_arg0) (TRef.of (T := ⟨S_, .f32⟩) main_call1_cst) (TRef.of (T := ⟨S128, .f32⟩) main_call1_v0) (fun x v => Host.reduce FloatOps.maximumf x v reducesTo_S128x100000_S128_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S128, .f32⟩) main_call1_v1) (broadcastInDim S128 ![] bcast_S_S128),
    TRef.binary (TRef.of (T := ⟨S128, .f32⟩) main_call1_v1) (TRef.of (T := ⟨S128, .f32⟩) main_call1_v0) (TRef.of (T := ⟨S128, .f32⟩) main_call1_v2) maximumf,
    TRef.unary (TRef.of (T := ⟨S128, .f32⟩) main_call1_v2) (TRef.of (T := ⟨S128x1, .f32⟩) main_call1_v3) (broadcastInDim S128x1 ![0] bcast_S128_S128x1_0),
    TRef.unary (TRef.of (T := ⟨S128x1, .f32⟩) main_call1_v3) (TRef.of (T := ⟨S128x100000, .f32⟩) main_call1_v4) (broadcastInDim S128x100000 ![0, 1] bcast_S128x1_S128x100000_0_1),
    TRef.binary (TRef.of (T := ⟨S128x100000, .f32⟩) main_arg0) (TRef.of (T := ⟨S128x100000, .f32⟩) main_call1_v4) (TRef.of (T := ⟨S128x100000, .f32⟩) main_call1_v5) subf,
    TRef.unary (TRef.of (T := ⟨S128x100000, .f32⟩) main_call1_v5) (TRef.of (T := ⟨S128x100000, .f32⟩) main_call1_v6) Host.exp,
    TRef.nullary (TRef.of (T := ⟨S_, .f32⟩) main_call1_cst_1) (constant S_ .f32 0x00000000#32),
    TRef.binary (TRef.of (T := ⟨S128x100000, .f32⟩) main_call1_v6) (TRef.of (T := ⟨S_, .f32⟩) main_call1_cst_1) (TRef.of (T := ⟨S128, .f32⟩) main_call1_v7) (fun x v => Host.reduceAdd x v reducesTo_S128x100000_S128_d1 h_S_),
    TRef.unary (TRef.of (T := ⟨S128, .f32⟩) main_call1_v7) (TRef.of (T := ⟨S128x1, .f32⟩) main_call1_v8) (broadcastInDim S128x1 ![0] bcast_S128_S128x1_0),
    TRef.unary (TRef.of (T := ⟨S128x1, .f32⟩) main_call1_v8) (TRef.of (T := ⟨S128x1, .f32⟩) main_call1_v9) Host.log,
    TRef.unary (TRef.of (T := ⟨S128x1, .f32⟩) main_call1_v9) (TRef.of (T := ⟨S128x100000, .f32⟩) main_call1_v10) (broadcastInDim S128x100000 ![0, 1] bcast_S128x1_S128x100000_0_1),
    TRef.binary (TRef.of (T := ⟨S128x100000, .f32⟩) main_call1_v5) (TRef.of (T := ⟨S128x100000, .f32⟩) main_call1_v10) (TRef.of (T := ⟨S128x100000, .f32⟩) main_v22) subf,
    nullary main_v23 (iotaInDim S128 32 0),
    nullary main_c (constantI S_ 32 100000#32),
    unary main_c main_v24 (broadcastInDim S128 ![] bcast_S_S128 : (⟨S_, .i32⟩ : BufTy).Contents (Elt F) → (⟨S128, .i32⟩ : BufTy).Contents (Elt F)),
    binary main_v23 main_v24 main_v25 (muli : (⟨S128, .i32⟩ : BufTy).Contents (Elt F) → (⟨S128, .i32⟩ : BufTy).Contents (Elt F) → (⟨S128, .i32⟩ : BufTy).Contents (Elt F)),
    binary main_v25 main_arg2 main_v26 (addi : (⟨S128, .i32⟩ : BufTy).Contents (Elt F) → (⟨S128, .i32⟩ : BufTy).Contents (Elt F) → (⟨S128, .i32⟩ : BufTy).Contents (Elt F)),
    reshape main_v22 main_v27 (rfl : (.f32 : EltTy) = .f32) shapeCasts_S128x100000_S12800000,
    TRef.nullary (TRef.of (T := ⟨S_, .i32⟩) main_call2_c) (constantI S_ 32 0#32),
    TRef.unary (TRef.of (T := ⟨S_, .i32⟩) main_call2_c) (TRef.of (T := ⟨S128, .i32⟩) main_call2_v0) (broadcastInDim S128 ![] bcast_S_S128),
    TRef.binary (TRef.of (T := ⟨S128, .i32⟩) main_v26) (TRef.of (T := ⟨S128, .i32⟩) main_call2_v0) (TRef.of (T := ⟨S128, .i1⟩) main_call2_v1) (cmpi .slt),
    TRef.nullary (TRef.of (T := ⟨S_, .i32⟩) main_call2_c_0) (constantI S_ 32 12800000#32),
    TRef.unary (TRef.of (T := ⟨S_, .i32⟩) main_call2_c_0) (TRef.of (T := ⟨S128, .i32⟩) main_call2_v2) (broadcastInDim S128 ![] bcast_S_S128),
    TRef.binary (TRef.of (T := ⟨S128, .i32⟩) main_v26) (TRef.of (T := ⟨S128, .i32⟩) main_call2_v2) (TRef.of (T := ⟨S128, .i32⟩) main_call2_v3) addi,
    TRef.ternary (TRef.of (T := ⟨S128, .i1⟩) main_call2_v1) (TRef.of (T := ⟨S128, .i32⟩) main_call2_v3) (TRef.of (T := ⟨S128, .i32⟩) main_v26) (TRef.of (T := ⟨S128, .i32⟩) main_call2_v4) select,
    TRef.unary (TRef.of (T := ⟨S128, .i32⟩) main_call2_v4) (TRef.of (T := ⟨S128x1, .i32⟩) main_call2_v5) (broadcastInDim S128x1 ![0] bcast_S128_S128x1_0),
    TRef.nullary (TRef.of (T := ⟨S1, .i32⟩) main_call2_c_1) (constantI S1 32 12799999#32),
    TRef.nullary (TRef.of (T := ⟨S_, .i32⟩) main_call2_c_2) (constantI S_ 32 0#32),
    TRef.unary (TRef.of (T := ⟨S_, .i32⟩) main_call2_c_2) (TRef.of (T := ⟨S128x1, .i32⟩) main_call2_v6) (broadcastInDim S128x1 ![] bcast_S_S128x1),
    TRef.binary (TRef.of (T := ⟨S128x1, .i32⟩) main_call2_v5) (TRef.of (T := ⟨S128x1, .i32⟩) main_call2_v6) (TRef.of (T := ⟨S128x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S128x1, .i32⟩) main_call2_v9) (broadcastInDim S128x1 ![0, 1] bcast_S1x1_S128x1_0_1),
    TRef.binary (TRef.of (T := ⟨S128x1, .i32⟩) main_call2_v5) (TRef.of (T := ⟨S128x1, .i32⟩) main_call2_v9) (TRef.of (T := ⟨S128x1, .i1⟩) main_call2_v10) (cmpi .sle),
    TRef.binary (TRef.of (T := ⟨S128x1, .i1⟩) main_call2_v7) (TRef.of (T := ⟨S128x1, .i1⟩) main_call2_v10) (TRef.of (T := ⟨S128x1, .i1⟩) main_call2_v11) andi,
    TRef.nullary (TRef.of (T := ⟨S_, .i1⟩) main_call2_c_3) (constantI S_ 1 1#1),
    TRef.binary (TRef.of (T := ⟨S128x1, .i1⟩) main_call2_v11) (TRef.of (T := ⟨S_, .i1⟩) main_call2_c_3) (TRef.of (T := ⟨S128, .i1⟩) main_call2_v12) (fun x v => Host.reduce IntOp.andi x v reducesTo_S128x1_S128_d1 h_S_),
    TRef.binary (TRef.of (T := ⟨S12800000, .f32⟩) main_v27) (TRef.of (T := ⟨S128x1, .i32⟩) main_call2_v5) (TRef.of (T := ⟨S128, .f32⟩) main_call2_v13) (fun x i => Host.gather gather_S12800000_S128x1_S128_n_0_n_n_0_1_1 x i),
    TRef.nullary (TRef.of (T := ⟨S_, .f32⟩) main_call2_cst) (constant S_ .f32 0x7FC00000#32),
    TRef.unary (TRef.of (T := ⟨S_, .f32⟩) main_call2_cst) (TRef.of (T := ⟨S128, .f32⟩) main_call2_v14) (broadcastInDim S128 ![] bcast_S_S128),
    TRef.ternary (TRef.of (T := ⟨S128, .i1⟩) main_call2_v12) (TRef.of (T := ⟨S128, .f32⟩) main_call2_v13) (TRef.of (T := ⟨S128, .f32⟩) main_call2_v14) (TRef.of (T := ⟨S128, .f32⟩) main_v28) select ]

set_option maxRecDepth 8192 in
set_option maxHeartbeats 4000000 in
/-- The program runs them. -/
theorem main_eq (c : Dev nD) : main (F := F) c = seq ops := rfl

theorem no_scoped : (Finset.univ.filter fun b : Ref sig .tc => b.isScoped) = ∅ := by decide
theorem no_scoped_sem : (Finset.univ.filter fun sm : SemLoc sig => sm.isScoped .tc) = ∅ := by decide

/-- The program has no semaphore. -/
theorem no_sem (sm : SemLoc sig) : False := by
  cases sm with
  | reg s => exact s.elim0
  | dma s => exact s.elim0

set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., unary_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
set_option maxHeartbeats 30000000 in
/-- From any memory with zero counters every run ends with the two results at these terms of the arguments, the
    arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v21) = RefTerms.firstBest (RefTerms.keyOf (RefTerms.probs (m ((c.tc : Thread nD τ).loc main_arg0))) (m ((c.tc : Thread nD τ).loc main_arg1)))
      ∧ r.2.mem ((c.tc : Thread nD τ).loc main_v28) = RefTerms.taken (RefTerms.logProbs (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => ⟨(h c main_v21).trans (by simp only [ops, TRef.binary, TRef.nullary, TRef.ternary, TRef.quaternary, TRef.unary, TRef.toBuf, TRef.ofBuf, cast_eq]; after_results_simp <;> rfl),
      (h c main_v28).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl)⟩, funext fun g => (no_sem g.2).elim⟩)
    (run_seq no_scoped no_scoped_sem defs main (fun _ => ops) main_eq (fun _ => ops_sub) m ρ)

end Cert.UnguardedIdeal.Run

end
-- ==== Proof.Winner.lean ====
/-
  The first of the greatest entries of a row of reals, how two stretches of a row combine, and how the kernel's folds
  over one block find it.
-/
module

public import Idealize.ShloMosaic.Lib.Pointwise

@[expose] public section

namespace Cert.Rows

open Idealize.ShloMosaic

/-- Of the first `n` entries of `f`, entry `k` is a greatest one and the first such. -/
def IsFirst (f : ℕ → ℝ) (n k : ℕ) : Prop := k < n ∧ (∀ j < n, f j ≤ f k) ∧ ∀ j < k, f j < f k

variable {f g : ℕ → ℝ} {n w k k' : ℕ}

/-- There is only one. -/
theorem IsFirst.unique (h : IsFirst f n k) (h' : IsFirst f n k') : k = k' := by
  rcases lt_trichotomy k k' with hl | he | hg
  · exact absurd (h'.2.2 k hl) (not_lt.2 (h.2.1 k' h'.1))
  · exact he
  · exact absurd (h.2.2 k' hg) (not_lt.2 (h'.2.1 k h.1))

/-- Later entries take its place when they hold a greater one. -/
theorem IsFirst.take (h : IsFirst f n k) (h' : IsFirst (fun j => f (n + j)) w k') (hl : f k < f (n + k')) :
    IsFirst f (n + w) (n + k') := by
  have hlt : ∀ j < n, f j < f (n + k') := fun j hj => lt_of_le_of_lt (h.2.1 j hj) hl
  refine ⟨Nat.add_lt_add_left h'.1 n, fun j hj => ?_, fun j hj => ?_⟩
  · by_cases hjn : j < n
    · exact (hlt j hjn).le
    · have := h'.2.1 (j - n) (by omega)
      simpa [Nat.add_sub_of_le (not_lt.1 hjn)] using this
  · by_cases hjn : j < n
    · exact hlt j hjn
    · have := h'.2.2 (j - n) (by omega)
      simpa [Nat.add_sub_of_le (not_lt.1 hjn)] using this

/-- It keeps its place when they do not. -/
theorem IsFirst.keep (h : IsFirst f n k) (h' : IsFirst (fun j => f (n + j)) w k') (hl : ¬ f k < f (n + k')) :
    IsFirst f (n + w) k := by
  refine ⟨by have := h.1; omega, fun j hj => ?_, h.2.2⟩
  by_cases hjn : j < n
  · exact h.2.1 j hjn
  · have := h'.2.1 (j - n) (by omega)
    simp only [Nat.add_sub_of_le (not_lt.1 hjn)] at this
    exact this.trans (not_lt.1 hl)

/-- A row that is not empty has one. -/
theorem exists_isFirst (f : ℕ → ℝ) : ∀ n : ℕ, 0 < n → ∃ k, IsFirst f n k
  | 1, _ => ⟨0, Nat.one_pos, fun j hj => by rw [Nat.lt_one_iff.1 hj], fun j hj => absurd hj (Nat.not_lt_zero j)⟩
  | n + 2, _ => by
    obtain ⟨k, hk⟩ := exists_isFirst f (n + 1) (Nat.succ_pos n)
    have h1 : IsFirst (fun j => f (n + 1 + j)) 1 0 :=
      ⟨Nat.one_pos, fun j hj => by rw [Nat.lt_one_iff.1 hj], fun j hj => absurd hj (Nat.not_lt_zero j)⟩
    by_cases hl : f k < f (n + 1 + 0)
    · exact ⟨_, hk.take h1 hl⟩
    · exact ⟨_, hk.keep h1 hl⟩

/-- Rows ordered alike have the same one. -/
theorem IsFirst.congr (h : IsFirst f n k) (hfg : ∀ i < n, ∀ j < n, (f i < f j ↔ g i < g j)) : IsFirst g n k :=
  ⟨h.1, fun j hj => not_lt.1 fun hl => absurd ((hfg k h.1 j hj).2 hl) (not_lt.2 (h.2.1 j hj)),
    fun j hj => (hfg j (hj.trans h.1) k h.1).1 (h.2.2 j hj)⟩

/-! ## One block -/

variable {N : ℕ}

/-- The fold by `max` over a block whose first `w` entries are the row's and whose others are -∞. -/
theorem fold_max (ρ : Fin N → EReal) (hw : w ≤ N) (hv : ∀ j : Fin N, j.val < w → ρ j = (f j.val : EReal))
    (hj : ∀ j : Fin N, ¬ j.val < w → ρ j = ⊥) (hk : IsFirst f w k) : Finset.univ.fold max ⊥ ρ = (f k : EReal) := by
  apply le_antisymm
  · rw [Finset.fold_max_le]
    refine ⟨bot_le, fun j _ => ?_⟩
    by_cases h : j.val < w
    · rw [hv j h]; exact EReal.coe_le_coe_iff.2 (hk.2.1 _ h)
    · rw [hj j h]; exact bot_le
  · rw [Finset.le_fold_max]
    exact Or.inr ⟨⟨k, lt_of_lt_of_le hk.1 hw⟩, Finset.mem_univ _, by rw [hv _ hk.1]⟩

theorem fold_max_init (ρ : Fin N → EReal) {b : EReal} (hb : b = ⊥) (hw : w ≤ N) (hv : ∀ j : Fin N, j.val < w → ρ j = (f j.val : EReal))
    (hj : ∀ j : Fin N, ¬ j.val < w → ρ j = ⊥) (hk : IsFirst f w k) : Finset.univ.fold max b ρ = (f k : EReal) := by
  rw [hb]; exact fold_max ρ hw hv hj hk

theorem toInt_minsi (a b : BitVec 32) : (IntOp.minsi a b).toInt = min a.toInt b.toInt := by
  unfold IntOp.minsi
  rw [min_def]
  simp only [BitVec.slt, BitVec.sle]
  split <;> split <;> simp_all <;> omega

theorem toInt_ofNat {x : ℕ} (h : x < 2147483648) : (BitVec.ofNat 32 x).toInt = x := by
  rw [BitVec.toInt_eq_toNat_of_lt] <;> simp [BitVec.toNat_ofNat] <;> omega

/-- The least column at which the block meets its maximum is the first such of the row. -/
theorem fold_min (ρ : Fin N → EReal) (c : Fin N → BitVec 32) (base : ℕ) (hb : base + N < 2147483647) (hw : w ≤ N)
    (hv : ∀ j : Fin N, j.val < w → ρ j = (f j.val : EReal))
    (hj : ∀ j : Fin N, ¬ j.val < w → ρ j = ⊥) (hk : IsFirst f w k)
    (hc : ∀ j, c j = if ρ j = (f k : EReal) then BitVec.ofNat 32 (base + j.val) else 2147483647#32) :
    Finset.univ.fold IntOp.minsi 2147483647#32 c = BitVec.ofNat 32 (base + k) := by
  apply BitVec.eq_of_toInt_eq
  have hkN : k < N := lt_of_lt_of_le hk.1 hw
  have hh := Finset.fold_hom (op := IntOp.minsi) (op' := (min : ℤ → ℤ → ℤ)) (m := BitVec.toInt) (s := (Finset.univ : Finset (Fin N)))
    (f := c) (b := 2147483647#32) toInt_minsi
  have e0 : (2147483647#32 : BitVec 32).toInt = 2147483647 := by decide
  have ec : ∀ x, base + x < 2147483648 → (BitVec.ofNat 32 (base + x)).toInt = base + x := fun x hx => by
    rw [toInt_ofNat hx]; push_cast; rfl
  rw [← hh, e0, ec k (by omega)]
  apply le_antisymm
  · rw [Finset.fold_min_le]
    refine Or.inr ⟨⟨k, hkN⟩, Finset.mem_univ _, ?_⟩
    rw [hc, if_pos (hv _ hk.1), ec _ (by simp only; omega)]
  · rw [Finset.le_fold_min]
    refine ⟨by omega, fun j _ => ?_⟩
    rw [hc]
    split
    next he =>
      have hjN := j.isLt
      rw [ec _ (by omega)]
      by_contra hlt
      have hjk : j.val < k := by omega
      rw [hv j (hjk.trans hk.1), EReal.coe_eq_coe_iff] at he
      exact absurd he (hk.2.2 _ hjk).ne
    next => rw [e0]; omega

/-- A finite sum of reals, taken in the extended reals. -/
theorem coe_sum {ι : Type} (s : Finset ι) (h : ι → ℝ) : ((∑ j ∈ s, h j : ℝ) : EReal) = ∑ j ∈ s, (h j : EReal) := by
  classical
  induction s using Finset.induction_on with
  | empty => simp
  | insert a s ha ih => rw [Finset.sum_insert ha, Finset.sum_insert ha, EReal.coe_add, ih]

/-- The sum over a block whose first `w` entries are the row's and whose others are zero. -/
theorem sum_block (ε : Fin N → EReal) (hw : w ≤ N) (hv : ∀ j : Fin N, j.val < w → ε j = (f j.val : EReal))
    (hj : ∀ j : Fin N, ¬ j.val < w → ε j = 0) : ∑ j, ε j = ((∑ j ∈ Finset.range w, f j : ℝ) : EReal) := by
  have h1 : ∀ j : Fin N, ε j = ((if j.val < w then f j.val else 0 : ℝ) : EReal) := fun j => by
    by_cases h : j.val < w
    · rw [hv j h, if_pos h]
    · rw [hj j h, if_neg h]; rfl
  rw [Finset.sum_congr rfl fun j _ => h1 j, ← coe_sum]
  congr 1
  rw [Finset.sum_fin_eq_sum_range, ← Finset.sum_subset (Finset.range_subset_range.2 hw)]
  · refine Finset.sum_congr rfl fun j hj => ?_
    have := Finset.mem_range.1 hj
    rw [dif_pos (by omega), if_pos this]
  · intro j hj hj'
    rw [dif_pos (Finset.mem_range.1 hj), if_neg (by simpa using hj')]

end Cert.Rows
-- ==== Proof.Drawn.lean ====
/-
  The real numbers a row of the inputs holds, the weight and the score of a column, and the inputs as they are drawn.
-/
module

public import proofs.«01_k».proof.Proof.Winner
public import proofs.«01_k».proof.KernelIdeal

@[expose] public section

noncomputable section

namespace Cert.Drawn

open Cert.KernelIdeal Idealize.ShloMosaic

/-- The constant inside the logarithms, near 1e-10. -/
def c : ℝ := (2 ^ 23 + 6022911 : ℕ) * (2 : ℝ) ^ (-57 : ℤ)

/-- The guard the reference adds to a probability, near 1e-20. -/
def slack : ℝ := (2 ^ 23 + 3990792 : ℕ) * (2 : ℝ) ^ (-90 : ℤ)

theorem c_pos : 0 < c := by unfold c; positivity
theorem slack_pos : 0 < slack := by unfold slack; positivity

theorem ofBits_c : Ideal.ofBits .f32 0x2EDBE6FF#32 = (c : EReal) := by
  simp [Ideal.ofBits, Ideal.ieee, c]

theorem ofBits_slack : Ideal.ofBits .f32 0x1E3CE508#32 = (slack : EReal) := by
  simp [Ideal.ofBits, Ideal.ieee, slack]

theorem ofBits_ninf : Ideal.ofBits .f32 0xFF800000#32 = ⊥ := by
  simp [Ideal.ofBits, Ideal.ieee]

theorem ofBits_pinf : Ideal.ofBits .f32 0x7F800000#32 = ⊤ := by
  simp [Ideal.ofBits, Ideal.ieee]

theorem ofBits_one : Ideal.ofBits .f32 0x3F800000#32 = ((1 : ℝ) : EReal) := by
  have h : (8388608 : ℝ) * ((2 : ℝ) ^ 23)⁻¹ = 1 := by norm_num
  simp only [Ideal.ofBits, Ideal.ieee]
  simp
  exact_mod_cast h

/-- The weight of a column whose uniform draw is `u`. -/
def weight (u : ℝ) : ℝ := -Real.log (u + c) + c

theorem weight_pos {u : ℝ} (h0 : 0 ≤ u) (h1 : u ≤ 1) : 0 < weight u := by
  have hc := c_pos
  have hx : 0 < u + c := by linarith
  have h : Real.log (u + c) < c := by
    have h2 : Real.log (u + c) ≤ Real.log (1 + c) := Real.log_le_log hx (by linarith)
    have h3 : Real.log (1 + c) < (1 + c) - 1 := Real.log_lt_sub_one_of_pos (by linarith) (by linarith)
    linarith
  unfold weight; linarith

/-- Column `j` of row `r`, as a real number. -/
def at_ (A : Vec Ideal S128x100000 .f32) (r : Fin 128) (j : ℕ) : ℝ :=
  if h : j < 100000 then (A (ix2 r ⟨j, h⟩) : EReal).toReal else 0

/-- The score of column `j` of row `r`: its exponential over its weight. -/
def score (A N : Vec Ideal S128x100000 .f32) (r : Fin 128) (j : ℕ) : ℝ := Real.exp (at_ A r j) / weight (at_ N r j)

/-- The inputs as they are drawn: real logits, uniform draws in [0, 1] and actions that name a column. -/
structure Inputs (A N : Vec Ideal S128x100000 .f32) (a : Vec Ideal S128 .i32) : Prop where
  logit : ∀ i, ∃ v : ℝ, (A i : EReal) = v
  noise : ∀ i, ∃ v : ℝ, (N i : EReal) = v ∧ 0 ≤ v ∧ v ≤ 1
  act : ∀ i, (a i : BitVec 32).toNat < 100000

variable {A N : Vec Ideal S128x100000 .f32} {a : Vec Ideal S128 .i32}

theorem Inputs.logit_eq (h : Inputs A N a) (r : Fin 128) (j : ℕ) (hj : j < 100000) :
    (A (ix2 r ⟨j, hj⟩) : EReal) = (at_ A r j : EReal) := by
  obtain ⟨v, hv⟩ := h.logit (ix2 r ⟨j, hj⟩)
  rw [at_, dif_pos hj, hv, EReal.toReal_coe]

theorem Inputs.noise_eq (h : Inputs A N a) (r : Fin 128) (j : ℕ) (hj : j < 100000) :
    (N (ix2 r ⟨j, hj⟩) : EReal) = (at_ N r j : EReal) := by
  obtain ⟨v, hv, _⟩ := h.noise (ix2 r ⟨j, hj⟩)
  rw [at_, dif_pos hj, hv, EReal.toReal_coe]

theorem Inputs.noise_mem (h : Inputs A N a) (r : Fin 128) (j : ℕ) : 0 ≤ at_ N r j ∧ at_ N r j ≤ 1 := by
  unfold at_
  split
  next hj =>
    obtain ⟨v, hv, h0, h1⟩ := h.noise (ix2 r ⟨j, hj⟩)
    rw [hv, EReal.toReal_coe]; exact ⟨h0, h1⟩
  next => norm_num

theorem Inputs.weight_pos (h : Inputs A N a) (r : Fin 128) (j : ℕ) : 0 < weight (at_ N r j) :=
  Drawn.weight_pos (h.noise_mem r j).1 (h.noise_mem r j).2

/-- The logarithm of a draw and the constant. -/
theorem log_noise {u : ℝ} (h0 : 0 ≤ u) : Ideal.log ((u : EReal) + (c : EReal)) = (Real.log (u + c) : EReal) := by
  have := c_pos
  rw [← EReal.coe_add, Ideal.log_coe, if_neg (by linarith)]

end Cert.Drawn

end
-- ==== Proof.PreRead.lean ====
/-
  What the precondition says of the inputs.
-/
module

public import proofs.«01_k».proof.Pre_as_drawn
public import proofs.«01_k».proof.Proof.Drawn
public import Idealize.ShloMosaic.Lib.Pointwise

@[expose] public section

noncomputable section

namespace Cert.Drawn

open Idealize.ShloMosaic

/-- The side conditions of the precondition's operations. -/
theorem preFacts : Cert.Pre_as_drawn.Facts where
  bcast_S_S128x100000 := by decide
  bcast_S_S128 := by decide

attribute [local instance] preFacts

variable (A N : Vec Ideal Cert.KernelIdeal.S128x100000 .f32) (a : Vec Ideal Cert.KernelIdeal.S128 .i32)

theorem pre_logit (i : Cert.KernelIdeal.S128x100000.Idx) : (Cert.Pre_as_drawn.fn (F := Ideal) A N a).1 i
    = IntOp.andi (Ideal.cmp .ogt (A i) (Ideal.ofBits .f32 0xFF800000#32)) (Ideal.cmp .olt (A i) (Ideal.ofBits .f32 0x7F800000#32)) := rfl

theorem pre_noise (i : Cert.KernelIdeal.S128x100000.Idx) : (Cert.Pre_as_drawn.fn (F := Ideal) A N a).2.1 i
    = IntOp.andi (Ideal.cmp .oge (N i) (Ideal.ofBits .f32 0x00000000#32)) (Ideal.cmp .ole (N i) (Ideal.ofBits .f32 0x3F800000#32)) := rfl

theorem pre_act (i : Cert.KernelIdeal.S128.Idx) : (Cert.Pre_as_drawn.fn (F := Ideal) A N a).2.2 i
    = IntOp.andi (IntOp.cmpi .sge (a i) 0#32) (IntOp.cmpi .slt (a i) 100000#32) := rfl

theorem andi_iff (x y : BitVec 1) : IntOp.andi x y = 1#1 ↔ x = 1#1 ∧ y = 1#1 := by revert x y; decide
theorem ofBool_one (b : Bool) : BitVec.ofBool b = 1#1 ↔ b = true := by cases b <;> decide

variable {A N a}

/-- Inputs it holds of are as they are drawn. -/
theorem inputs_of_pre (h1 : ∀ i, (Cert.Pre_as_drawn.fn (F := Ideal) A N a).1 i = 1#1)
    (h2 : ∀ i, (Cert.Pre_as_drawn.fn (F := Ideal) A N a).2.1 i = 1#1) (h3 : ∀ i, (Cert.Pre_as_drawn.fn (F := Ideal) A N a).2.2 i = 1#1) :
    Inputs A N a where
  logit i := by
    have h := h1 i
    rw [pre_logit A N a i, andi_iff, ofBits_ninf, ofBits_pinf] at h
    have hb := of_decide_eq_true ((ofBool_one _).1 h.1)
    have ht := of_decide_eq_true ((ofBool_one _).1 h.2)
    exact ⟨_, (EReal.coe_toReal ht.ne hb.ne').symm⟩
  noise i := by
    have h := h2 i
    rw [pre_noise A N a i, andi_iff, Ideal.ofBits_zero_f32, ofBits_one] at h
    have h0 := of_decide_eq_true ((ofBool_one _).1 h.1)
    have h1 := of_decide_eq_true ((ofBool_one _).1 h.2)
    have hb : (N i : EReal) ≠ ⊥ := fun e => by rw [e] at h0; exact absurd h0 (not_le.2 EReal.bot_lt_zero)
    have ht : (N i : EReal) ≠ ⊤ := fun e => by rw [e] at h1; exact absurd h1 (not_le.2 (EReal.coe_lt_top 1))
    have hv := EReal.coe_toReal ht hb
    refine ⟨_, hv.symm, ?_, ?_⟩
    · rw [← hv] at h0; exact_mod_cast h0
    · rw [← hv] at h1; exact_mod_cast h1
  act i := by
    have h := h3 i
    rw [pre_act A N a i, andi_iff] at h
    have h0 : (0#32 : BitVec 32).toInt ≤ (a i : BitVec 32).toInt := of_decide_eq_true ((ofBool_one _).1 h.1)
    have h1 : (a i : BitVec 32).toInt < (100000#32 : BitVec 32).toInt := of_decide_eq_true ((ofBool_one _).1 h.2)
    rw [show (0#32 : BitVec 32).toInt = 0 from by decide] at h0
    rw [show (100000#32 : BitVec 32).toInt = 100000 from by decide] at h1
    rw [BitVec.toInt_eq_toNat_cond] at h0 h1
    split at h0 <;> omega

end Cert.Drawn

end
-- ==== Proof.IdealValue.lean ====
/-
  The run of the kernel at values: with a property of the scratch columns that every point carries on, and results that
  follow from it at the last point, the two result arrays end at those results.
-/
module

public import proofs.«01_k».proof.Proof.IdealFrame
public import Idealize.ShloMosaic.Lib.Pipeline.ValueKit.Geometry

@[expose] public section

set_option maxRecDepth 16384

noncomputable section

namespace Cert.IdealBody

open Cert.KernelIdeal Cert.KernelIdeal.Gen Cert.Access
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (G3 : Dev nD → Vec F S128x1 .i32) (G4 : Dev nD → Vec F S128x1 .f32) (Ok : Dev nD → ℕ → Cols F → Prop)

/-- The invariant: the scratch buffers at columns of which the property holds. -/
abbrev ΦV (Ok : Dev nD → ℕ → Cols F → Prop) : Dev nD → Fin (cfg0.N + 1) → sProp 𝕄 := fun c k =>
  iprop((∃ s : Cols F, ⌜Ok c k.val s⌝
      ∗ owns (c : Thread nD τ) (Memref.whole cc0_scratch0) fullShare s.sum ∗ owns (c : Thread nD τ) (Memref.whole cc0_scratch1) fullShare s.best
      ∗ owns (c : Thread nD τ) (Memref.whole cc0_scratch2) fullShare s.idx ∗ owns (c : Thread nD τ) (Memref.whole cc0_scratch3) fullShare s.act)
      ∗ ∃ r, prngReg c r)

/-- What point `t` leaves, over the blocks that the windows stage there, the rest of the staging buffers at anything. -/
abbrev nextAt (c : Dev nD) (t : Fin cfg0.N) (d1 d2 : Vec F S128x12544 .f32) (s : Cols F) : Cols F :=
  next t (win0_0.fill (grid0.coords t) d1 (iblk m c 0 t)) (win0_1.fill (grid0.coords t) d2 (iblk m c 1 t)) (iblk m c 2 t) s

/-- Idle windows 3 and 4 keep what they hold off the last point. -/
theorem idle_3 (t : Fin cfg0.N) : idle0 3 (grid0.coords t) = decide (t.val ≠ 7) := by
  rcases fin_N0 t with rfl | rfl | rfl | rfl | rfl | rfl | rfl | rfl <;> decide +kernel

theorem idle_4 (t : Fin cfg0.N) : idle0 4 (grid0.coords t) = decide (t.val ≠ 7) := by
  rcases fin_N0 t with rfl | rfl | rfl | rfl | rfl | rfl | rfl | rfl <;> decide +kernel

theorem flush_3 (t : Fin cfg0.N) : (win0 3).flush t = decide (t.val = 7) := by
  rcases fin_N0 t with rfl | rfl | rfl | rfl | rfl | rfl | rfl | rfl <;> decide +kernel

theorem flush_4 (t : Fin cfg0.N) : (win0 4).flush t = decide (t.val = 7) := by
  rcases fin_N0 t with rfl | rfl | rfl | rfl | rfl | rfl | rfl | rfl <;> decide +kernel

set_option maxHeartbeats 4000000 in
theorem body_value (c : Dev nD)
    (hstep : ∀ (t : Fin cfg0.N) (d1 d2 : Vec F S128x12544 .f32) (s : Cols F), Ok c t.val s → Ok c (t.val + 1) (nextAt m c t d1 d2 s))
    (hend : ∀ s, Ok c 8 s → picked s = G3 c ∧ logProb s = G4 c) :
    BodyObligationLoose (dats m (ΦV Ok) G3 G4 0 c) (defs₀ (F := F)) Variants.none () Set.univ := fun t => by
  rw [bigSep_W0, bigSep_W0]
  rw [show (dats m (ΦV Ok) G3 G4 0 c).Φ t.succ = ΦV Ok c t.succ from rfl,
    show (dats m (ΦV Ok) G3 G4 0 c).Φ t.castSucc = ΦV Ok c t.castSucc from rfl,
    show (dats m (ΦV Ok) G3 G4 0 c).owesAt () t.succ = (dats m (ΦV Ok) G3 G4 0 c).owesAt () t.castSucc from rfl]
  iintro ⟨⟨⟨%s, %hs, H6, H7, H8, H9⟩, Hp⟩, Ho, ⟨%d1, H1⟩, ⟨%d2, H2⟩, ⟨%d3, H3⟩, ⟨%P, H4⟩, ⟨%R, H5⟩⟩
  rw [before_0 m G3 G4 (ΦV Ok) c t d1, before_1 m G3 G4 (ΦV Ok) c t d2, before_2 m G3 G4 (ΦV Ok) c t d3]
  iapply (body_point (F := F) Variants.none c Set.univ t (win0_0.fill (grid0.coords t) d1 (iblk m c 0 t))
    (win0_1.fill (grid0.coords t) d2 (iblk m c 1 t)) (iblk m c 2 t) s _ _ _)
  isplitl [H1 H2 H3 H4 H5 H6 H7 H8 H9]
  · simp only [held]
    iframe
  simp only [held]
  iintro ⟨H1, H2, H3, H4, H5, H6, H7, H8, H9⟩
  have hn := hstep t d1 d2 s hs
  isplitl [H6 H7 H8 H9 Hp]
  · isplitl [H6 H7 H8 H9]
    · iexists (nextAt m c t d1 d2 s)
      isplitr
      · ipureintro; exact hn
      iframe
    · iexact Hp
  isplitl [Ho]; · iexact Ho
  isplitl [H1]
  · iexists d1
    change _ ⊢ owns (c : Thread nD τ) (win0_0.stage (cfg0.slots t 0)) fullShare (win0_0.fill (grid0.coords t) d1 (win0_0.cut (grid0.coords t)
      (win0_0.fill (grid0.coords t) (fun _ => Scalar.ofBits .f32 0#32) (iblk m c 0 t))))
    rw [win0_0.cut_fill]; try iexact H1
  isplitl [H2]
  · iexists d2
    change _ ⊢ owns (c : Thread nD τ) (win0_1.stage (cfg0.slots t 1)) fullShare (win0_1.fill (grid0.coords t) d2 (win0_1.cut (grid0.coords t)
      (win0_1.fill (grid0.coords t) (fun _ => Scalar.ofBits .f32 0#32) (iblk m c 1 t))))
    rw [win0_1.cut_fill]; try iexact H2
  isplitl [H3]
  · iexact H3
  by_cases h7 : t.val = 7
  · have he := hend _ (by have := hn; rwa [show t.val + 1 = 8 by omega] at this)
    rw [show idle0 3 (grid0.coords t) = false from by rw [idle_3 t]; simp [h7]]
    dsimp only
    simp only [pickedAt, logProbAt, h7, if_true]
    isplitl [H4]
    · have e3 : (dats m (ΦV Ok) G3 G4 0 c).after (3 : Fin 5) t = picked (nextAt m c t d1 d2 s) := he.1.symm
      rw [e3]; iexact H4
    · have e4 : (dats m (ΦV Ok) G3 G4 0 c).after (4 : Fin 5) t = logProb (nextAt m c t d1 d2 s) := he.2.symm
      rw [e4]; iexact H5
  · rw [show idle0 3 (grid0.coords t) = true from by rw [idle_3 t]; simp [h7],
      show (win0 3).flush t = false from by rw [flush_3 t]; simp [h7], show (win0 4).flush t = false from by rw [flush_4 t]; simp [h7]]
    dsimp only
    simp only [pickedAt, logProbAt, h7, if_false]
    isplitl [H4]
    · iexists P; iexact H4
    · iexists R; iexact H5

theorem final_3 (Φ : Dev nD → Fin (cfg0.N + 1) → sProp 𝕄) (c : Dev nD) : (dats m Φ G3 G4 0 c).arrAt (3 : Fin 5) cfg0.N = G3 c :=
  (dats m Φ G3 G4 0 c).arrAt_eq_of_after_last (3 : Fin 5) t0_7 (by decide +kernel) (G3 c) fun _ => rfl

theorem final_4 (Φ : Dev nD → Fin (cfg0.N + 1) → sProp 𝕄) (c : Dev nD) : (dats m Φ G3 G4 0 c).arrAt (4 : Fin 5) cfg0.N = G4 c :=
  (dats m Φ G3 G4 0 c).arrAt_eq_of_after_last (4 : Fin 5) t0_7 (by decide +kernel) (G4 c) fun _ => rfl

theorem arrRef_inj : Function.Injective (Pipeline.arrRef spec0) := by decide

theorem tail_v2 (Φ : Dev nD → Fin (cfg0.N + 1) → sProp 𝕄) (c : Dev nD) :
    Pipeline.afterTail₀ cfgs (dats m Φ G3 G4) 0 (V0 m) [hostOps1] c main_v2 = shapeCast S128 (G3 c) shapeCasts_S128x1_S128 := by
  unfold Pipeline.afterTail₀
  simp only [List.flatten_cons, List.flatten_nil, List.append_nil, hostOps1]
  after_results
  have h := Pipeline.withArrays_arr spec0 arrRef_inj c (V0 m c) (fun w => (dats m Φ G3 G4 0 c).arrAt w cfg0.N) 3
  refine Eq.trans (congrArg (fun a => shapeCast S128 a shapeCasts_S128x1_S128) h) ?_
  rw [final_3 m G3 G4 Φ c]

theorem tail_v3 (Φ : Dev nD → Fin (cfg0.N + 1) → sProp 𝕄) (c : Dev nD) :
    Pipeline.afterTail₀ cfgs (dats m Φ G3 G4) 0 (V0 m) [hostOps1] c main_v3 = shapeCast S128 (G4 c) shapeCasts_S128x1_S128 := by
  unfold Pipeline.afterTail₀
  simp only [List.flatten_cons, List.flatten_nil, List.append_nil, hostOps1]
  after_results
  have h := Pipeline.withArrays_arr spec0 arrRef_inj c (V0 m c) (fun w => (dats m Φ G3 G4 0 c).arrAt w cfg0.N) 4
  refine Eq.trans (congrArg (fun a => shapeCast S128 a shapeCasts_S128x1_S128) h) ?_
  rw [final_4 m G3 G4 Φ c]

set_option backward.isDefEq.respectTransparency.types false in
set_option maxHeartbeats 4000000 in
/-- From any memory with zero counters, the property holding of any columns before the first point and carried on by
    every point, every run ends with the two results at what the property says of the last columns, reshaped. -/
theorem run_value (g : Dev nD → PrngReg)
    (hstart : ∀ c s, Ok c 0 s)
    (hstep : ∀ (c : Dev nD) (t : Fin cfg0.N) (d1 d2 : Vec F S128x12544 .f32) (s : Cols F), Ok c t.val s → Ok c (t.val + 1) (nextAt m c t d1 d2 s))
    (hend : ∀ c s, Ok c 8 s → picked s = G3 c ∧ logProb s = G4 c) :
    θ_run defs (onTc (τ := τ) (main (F := F))) ⟨m, fun _ => 0, g⟩ (fun r => ∀ c : Dev nD,
      r.2.mem ((c.tc : Thread nD τ).loc main_v2) = shapeCast S128 (G3 c) shapeCasts_S128x1_S128
      ∧ r.2.mem ((c.tc : Thread nD τ).loc main_v3) = shapeCast S128 (G4 c) shapeCasts_S128x1_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_around_track cfgs (dats m (ΦV Ok) G3 G4) 0 launch0 defs₀ Variants.none m g main
    (hbody := fun c => body_value m G3 G4 Ok c (hstep c) (hend c))
    (hshare := fun c => (dats m (ΦV Ok) G3 G4 0 c).share_full fun _ => rfl)
    (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      change _ ⊢ ΦV Ok c 0
      iintro H
      ihave HC := (anyCols_of (F := F) c) $$ H
      icases HC with ⟨⟨%s, H6, H7, H8, H9⟩, Hp⟩
      isplitl [H6 H7 H8 H9]
      · iexists s
        isplitr
        · ipureintro; exact hstart c s
        iframe
      · iexact Hp)
    (hout := fun c => by
      change ΦV Ok c (Fin.last cfg0.N) ⊢ _
      iintro ⟨⟨%s, %hs, H6, H7, H8, H9⟩, Hp⟩
      iapply (anyCols_to (F := F) c s)
      iframe)
    (Q' := fun r => ∀ c : Dev nD,
      r.2.mem ((c.tc : Thread nD τ).loc main_v2) = shapeCast S128 (G3 c) shapeCasts_S128x1_S128
      ∧ r.2.mem ((c.tc : Thread nD τ).loc main_v3) = shapeCast S128 (G4 c) shapeCasts_S128x1_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    (hQ' := fun r h c => ⟨((h.1 c).2 main_v2 (Pipeline.mem_restRefs_of main_v2 (by decide) (by decide))).trans (tail_v2 m G3 G4 _ c),
      ((h.1 c).2 main_v3 (Pipeline.mem_restRefs_of main_v3 (by decide) (by decide))).trans (tail_v3 m G3 G4 _ c),
      (h.1.in_eq c 0 rfl).trans (V_main_arg0 m c), (h.1.in_eq c 1 rfl).trans (V_main_arg1 m c),
      ((h.1 c).2 main_arg2 (Pipeline.mem_restRefs_of main_arg2 (by decide) (by decide))).trans (W_main_arg2 m (dats m (ΦV Ok) G3 G4) c)⟩)

end Cert.IdealBody

end
-- ==== Proof.IdealWindow.lean ====
/-
  What the two clipped windows stage: the columns of the block at a point that lie inside the array.
-/
module

public import proofs.«01_k».proof.Proof.IdealValue
public import Idealize.ShloMosaic.Lib.Pointwise

@[expose] public section

set_option maxRecDepth 16384

noncomputable section

namespace Cert.IdealBody

open Cert.KernelIdeal Cert.KernelIdeal.Gen
open Idealize.ShloMosaic
open Idealize.ShloMosaic.TcCoe
open Idealize.ShloMosaic.Pipeline (Window)

variable {F : FTy → Type} [FloatOps F]
variable (m : (ℓ : Loc nD τ sig) → Buf (Elt F) ℓ)

theorem index_0 : ∀ t : Fin cfg0.N, win0_0.index t = ![0, t.val] :=
  (by decide +kernel : ∀ t : Fin grid0.N, win0_0.index t = ![0, t.val])

theorem index_1 : ∀ t : Fin cfg0.N, win0_1.index t = ![0, t.val] :=
  (by decide +kernel : ∀ t : Fin grid0.N, win0_1.index t = ![0, t.val])

theorem index_2 : ∀ t : Fin cfg0.N, win0_2.index t = ![0, 0] :=
  (by decide +kernel : ∀ t : Fin grid0.N, win0_2.index t = ![0, 0])

theorem xsize_0 : ∀ t : Fin cfg0.N, win0_0.xsize (grid0.coords t) = ![128, min 12544 (100000 - 12544 * t.val)] :=
  (by decide +kernel : ∀ t : Fin grid0.N, win0_0.xsize (grid0.coords t) = ![128, min 12544 (100000 - 12544 * t.val)])

theorem xsize_1 : ∀ t : Fin cfg0.N, win0_1.xsize (grid0.coords t) = ![128, min 12544 (100000 - 12544 * t.val)] :=
  (by decide +kernel : ∀ t : Fin grid0.N, win0_1.xsize (grid0.coords t) = ![128, min 12544 (100000 - 12544 * t.val)])

/-- Window 0's block at point `t`, at a column inside the array. -/
theorem block_0 (c : Dev nD) (t : Fin cfg0.N) (d : Vec F S128x12544 .f32) (r : Fin 128) (j : Fin 12544) (h : 12544 * t.val + j.val < 100000) :
    (win0_0.fill (grid0.coords t) d (iblk m c 0 t) : Vec F S128x12544 .f32) (ix2 r j)
      = (m ((c : Thread nD τ).loc main_arg0) : Vec F S128x100000 .f32) (ix2 r ⟨12544 * t.val + j.val, h⟩) := by
  have hm : win0_0.moved (grid0.coords t) (ix2 r j) = true := by
    rw [win0_0.moved_iff]
    intro a
    rw [xsize_0 t]
    match a with
    | ⟨0, _⟩ => exact r.isLt
    | ⟨1, _⟩ => show j.val < min 12544 _; have := j.isLt; omega
  unfold Window.fill
  rw [dif_pos hm]
  blk_simp [iblk]
  rw [V_main_arg0]
  congr 1
  blk_ext [index_0]

/-- Window 1's block at point `t`, at a column inside the array. -/
theorem block_1 (c : Dev nD) (t : Fin cfg0.N) (d : Vec F S128x12544 .f32) (r : Fin 128) (j : Fin 12544) (h : 12544 * t.val + j.val < 100000) :
    (win0_1.fill (grid0.coords t) d (iblk m c 1 t) : Vec F S128x12544 .f32) (ix2 r j)
      = (m ((c : Thread nD τ).loc main_arg1) : Vec F S128x100000 .f32) (ix2 r ⟨12544 * t.val + j.val, h⟩) := by
  have hm : win0_1.moved (grid0.coords t) (ix2 r j) = true := by
    rw [win0_1.moved_iff]
    intro a
    rw [xsize_1 t]
    match a with
    | ⟨0, _⟩ => exact r.isLt
    | ⟨1, _⟩ => show j.val < min 12544 _; have := j.isLt; omega
  unfold Window.fill
  rw [dif_pos hm]
  blk_simp [iblk]
  rw [V_main_arg1]
  congr 1
  blk_ext [index_1]

/-- Window 2's array is the actions, reshaped. -/
theorem V_main_v0 (c : Dev nD) : (V m c main_v0 : Vec F S128x1 .i32)
    = shapeCast S128x1 (m ((c : Thread nD τ).loc main_arg2) : Vec F S128 .i32) shapeCasts_S128_S128x1 := by
  change StableHlo.after (List.flatten [hostOps0]) (fun b => m (c, b)) (Proc.devRef .tc main_v0) = _
  simp only [List.flatten_cons, List.flatten_nil, List.append_nil, hostOps0]
  after_results
  rfl

/-- Window 2's block is the actions, one per row. -/
theorem block_2 (c : Dev nD) (t : Fin cfg0.N) (r : Fin 128) :
    (iblk m c 2 t : Vec F S128x1 .i32) (ix2 r 0) = (m ((c : Thread nD τ).loc main_arg2) : Vec F S128 .i32) (ix1 r) := by
  blk_simp [iblk]
  rw [V_main_v0, show ((win0_2.blk t).view.emb (ix2 r 0) : S128x1.Idx) = ix2 r 0 from by blk_ext [index_2]]
  pointwise

end Cert.IdealBody

end
-- ==== Proof.IdealRead.lean ====
/-
  What the kernel's steps leave in a row of the scratch columns, read in the extended reals.
-/
module

public import proofs.«01_k».proof.Proof.IdealPoint
public import Idealize.ShloMosaic.Lib.Pointwise

@[expose] public section

set_option maxRecDepth 16384

noncomputable section

namespace Cert.IdealBody

open Cert.KernelIdeal Cert.KernelIdeal.Gen
open Idealize.ShloMosaic

variable (a : BitVec 32) (X Y : Vec Ideal S128x12544 .f32) (Z : Vec Ideal S128x1 .i32) (s : Cols Ideal) (r : Fin 128)

/-- The constant inside the logarithms. -/
abbrev tiny : EReal := Ideal.ofBits .f32 0x2EDBE6FF#32
/-- Minus infinity. -/
abbrev ninf : EReal := Ideal.ofBits .f32 0xFF800000#32

/-- The columns of the block. -/
def col (a : BitVec 32) (k : Fin 12544) : BitVec 32 := IntOp.addi (Scalar.muli a 12544#32) (BitVec.ofNat 32 k.val)

/-- The score of one element. -/
def score1 (x y : EReal) : EReal := Ideal.div (Ideal.exp x) (0 - Ideal.log (y + tiny) + tiny)

/-- Whether a block's best, `rm` at `ri`, takes the place of the best so far, `b` at `i`. -/
def takes (rm b : EReal) (ri i : BitVec 32) : BitVec 1 :=
  IntOp.ori (BitVec.ofBool (decide (b < rm))) (IntOp.andi (BitVec.ofBool (decide (rm = b))) (IntOp.cmpi .slt ri i))

/-- Whether a column of the block lies inside the array. -/
def valid (a : BitVec 32) (k : Fin 12544) : BitVec 1 := IntOp.cmpi .slt (col a k) 100000#32

theorem pay10_apply (k : Fin 12544) : k0_pay10 X Y (ix2 r k) = score1 (X (ix2 r k)) (Y (ix2 r k)) := by
  pointwise [k0_pay10, k0_pay9]; rfl

theorem pay19_apply (k : Fin 12544) : k0_pay19 a ninf X Y (ix2 r k)
    = Scalar.select (valid a k) (score1 (X (ix2 r k)) (Y (ix2 r k))) ninf := by
  pointwise [k0_pay19, k0_pay17, k0_pay18, k0_pay16]; rfl

theorem pay12_apply : k0_pay12 X Y (ix2 r 0) = Finset.univ.fold max ninf fun k : Fin 12544 => k0_pay10 X Y (ix2 r k) := by
  pointwise [k0_pay12]

theorem pay21_apply : k0_pay21 a ninf X Y (ix2 r 0) = Finset.univ.fold max ninf fun k : Fin 12544 => k0_pay19 a ninf X Y (ix2 r k) := by
  pointwise [k0_pay21]

theorem pay13_apply : k0_pay13 a X Y (ix2 r 0) = Finset.univ.fold IntOp.minsi 2147483647#32 fun k : Fin 12544 =>
    if k0_pay10 X Y (ix2 r k) = k0_pay12 X Y (ix2 r 0) then col a k else 2147483647#32 := by
  pointwise [k0_pay13, k0_pay8]; rfl

theorem pay22_apply : k0_pay22 a ninf X Y (ix2 r 0) = Finset.univ.fold IntOp.minsi 2147483647#32 fun k : Fin 12544 =>
    if k0_pay19 a ninf X Y (ix2 r k) = k0_pay21 a ninf X Y (ix2 r 0) then col a k else 2147483647#32 := by
  pointwise [k0_pay22, k0_pay16]; rfl

theorem inner_sum : (IdealBody.inner a X Y Z s).sum (ix2 r 0) = s.sum (ix2 r 0) + ∑ k : Fin 12544, Ideal.exp (X (ix2 r k)) := by
  pointwise [IdealBody.inner, k0_pay11, k0_pay9]

theorem outer_sum : (IdealBody.outer a X Y Z s).sum (ix2 r 0)
    = s.sum (ix2 r 0) + ∑ k : Fin 12544, Scalar.select (valid a k) (Ideal.exp (X (ix2 r k))) 0 := by
  pointwise [IdealBody.outer, k0_pay20, k0_pay18, k0_pay17, k0_pay16]; rfl

theorem inner_act : (IdealBody.inner a X Y Z s).act (ix2 r 0)
    = s.act (ix2 r 0) + ∑ k : Fin 12544, Scalar.select (IntOp.cmpi .eq (col a k) (Z (ix2 r 0))) (X (ix2 r k)) 0 := by
  pointwise [IdealBody.inner, k0_pay7, k0_pay8]; rfl

theorem outer_act : (IdealBody.outer a X Y Z s).act (ix2 r 0)
    = s.act (ix2 r 0) + ∑ k : Fin 12544, Scalar.select (IntOp.cmpi .eq (col a k) (Z (ix2 r 0))) (X (ix2 r k)) 0 := by
  pointwise [IdealBody.outer, k0_pay26, k0_pay16]; rfl

theorem inner_best : (IdealBody.inner a X Y Z s).best (ix2 r 0)
    = Scalar.select (takes (k0_pay12 X Y (ix2 r 0)) (s.best (ix2 r 0)) (k0_pay13 a X Y (ix2 r 0)) (s.idx (ix2 r 0)))
        (k0_pay12 X Y (ix2 r 0)) (s.best (ix2 r 0)) := by
  pointwise [IdealBody.inner, k0_pay5, k0_pay15, k0_pay14]; rfl

theorem inner_idx : (IdealBody.inner a X Y Z s).idx (ix2 r 0)
    = Scalar.select (takes (k0_pay12 X Y (ix2 r 0)) (s.best (ix2 r 0)) (k0_pay13 a X Y (ix2 r 0)) (s.idx (ix2 r 0)))
        (k0_pay13 a X Y (ix2 r 0)) (s.idx (ix2 r 0)) := by
  pointwise [IdealBody.inner, k0_pay6, k0_pay14]; rfl

theorem outer_best : (IdealBody.outer a X Y Z s).best (ix2 r 0)
    = Scalar.select (takes (k0_pay21 a ninf X Y (ix2 r 0)) (s.best (ix2 r 0)) (k0_pay22 a ninf X Y (ix2 r 0)) (s.idx (ix2 r 0)))
        (k0_pay21 a ninf X Y (ix2 r 0)) (s.best (ix2 r 0)) := by
  pointwise [IdealBody.outer, k0_pay24, k0_pay23]; rfl

theorem outer_idx : (IdealBody.outer a X Y Z s).idx (ix2 r 0)
    = Scalar.select (takes (k0_pay21 a ninf X Y (ix2 r 0)) (s.best (ix2 r 0)) (k0_pay22 a ninf X Y (ix2 r 0)) (s.idx (ix2 r 0)))
        (k0_pay22 a ninf X Y (ix2 r 0)) (s.idx (ix2 r 0)) := by
  pointwise [IdealBody.outer, k0_pay25, k0_pay23]; rfl

theorem start_sum : (start : Cols Ideal).sum (ix2 r 0) = 0 := by
  pointwise [start, k0_pay1]

theorem start_best : (start : Cols Ideal).best (ix2 r 0) = ninf := by
  pointwise [start, k0_pay2]

theorem start_act : (start : Cols Ideal).act (ix2 r 0) = 0 := by
  pointwise [start, k0_pay4]

theorem logProb_apply : logProb s (ix2 r 0) = s.act (ix2 r 0) - Ideal.log (s.sum (ix2 r 0)) := by
  pointwise [logProb, k0_pay27]

end Cert.IdealBody

end
-- ==== Proof.IdealBlock.lean ====
/-
  What a row of the scratch columns holds once the first `n` columns of the row have gone by.
-/
module

public import proofs.«01_k».proof.Proof.IdealRead
public import proofs.«01_k».proof.Proof.Drawn

@[expose] public section

set_option maxRecDepth 16384

noncomputable section

namespace Cert.IdealBody

open Cert.KernelIdeal Cert.KernelIdeal.Gen Cert.Rows Cert.Drawn
open Idealize.ShloMosaic

/-- The best of the first `n` entries of `f` and where it first is: `b` at `i`. -/
def Held (f : ℕ → ℝ) (n : ℕ) (b : EReal) (i : BitVec 32) : Prop :=
  (n = 0 ∧ b = ⊥) ∨ ∃ k, IsFirst f n k ∧ b = (f k : EReal) ∧ i = BitVec.ofNat 32 k

theorem select_eq {α : Type} (p : BitVec 1) (x y : α) : Scalar.select p x y = if p = 1#1 then x else y := rfl

theorem ofBool_iff (b : Bool) : BitVec.ofBool b = 1#1 ↔ b = true := by cases b <;> decide

theorem takes_iff {rm b : EReal} {ri i : BitVec 32} (h : rm = b → ¬ ri.toInt < i.toInt) : takes rm b ri i = 1#1 ↔ b < rm := by
  unfold takes
  by_cases h1 : b < rm
  · have h2 : rm ≠ b := h1.ne'
    simp [h1, h2, IntOp.ori, IntOp.andi]
  · by_cases h2 : rm = b
    · have h3 : IntOp.cmpi .slt ri i = 0#1 := by
        simp [IntOp.cmpi, BitVec.slt, h h2]
      simp [h1, h2, h3, IntOp.ori, IntOp.andi]
    · simp [h1, h2, IntOp.ori, IntOp.andi]

/-- A block's best against the best so far. -/
theorem Held.step {f : ℕ → ℝ} {n w k' : ℕ} {rm b : EReal} {ri i : BitVec 32} (h : Held f n b i)
    (hk : IsFirst (fun j => f (n + j)) w k') (hr : rm = (f (n + k') : EReal)) (hi : ri = BitVec.ofNat 32 (n + k'))
    (hw : n + w < 2147483648) :
    Held f (n + w) (Scalar.select (takes rm b ri i) rm b) (Scalar.select (takes rm b ri i) ri i) := by
  have hkw := hk.1
  right
  rcases h with ⟨rfl, rfl⟩ | ⟨k, hf, rfl, rfl⟩
  · have ht : takes rm ⊥ ri i = 1#1 := (takes_iff fun e => absurd (hr.symm.trans e) (EReal.coe_ne_bot _)).2 (hr ▸ EReal.bot_lt_coe _)
    simp only [select_eq, ht, if_true]
    refine ⟨0 + k', ?_, hr, hi⟩
    simpa using hk
  · have hkn := hf.1
    have ht := takes_iff (rm := rm) (b := (f k : EReal)) (ri := ri) (i := BitVec.ofNat 32 k)
      (fun _ => by rw [hi, toInt_ofNat (by omega), toInt_ofNat (by omega)]; omega)
    rw [hr, EReal.coe_lt_coe_iff, ← hr] at ht
    by_cases hl : f k < f (n + k')
    · simp only [select_eq, ht.2 hl, if_true]
      exact ⟨n + k', hf.take hk hl, hr, hi⟩
    · simp only [select_eq, if_neg (mt ht.1 hl)]
      exact ⟨k, hf.keep hk hl, rfl, rfl⟩

/-- A block's column is the array's. -/
theorem col_eq (t : ℕ) (k : Fin 12544) : col (BitVec.ofNat 32 t) k = BitVec.ofNat 32 (12544 * t + k.val) := by
  apply BitVec.eq_of_toNat_eq
  simp only [col, IntOp.addi, Scalar.muli, IntOp.muli, BitVec.toNat_add, BitVec.toNat_mul, BitVec.toNat_ofNat]
  omega

theorem valid_eq (t : ℕ) (ht : t < 8) (k : Fin 12544) :
    valid (BitVec.ofNat 32 t) k = 1#1 ↔ 12544 * t + k.val < 100000 := by
  have hk := k.isLt
  rw [valid, col_eq]
  simp only [IntOp.cmpi, BitVec.slt, ofBool_iff, toInt_ofNat (show 12544 * t + k.val < 2147483648 by omega),
    show (100000#32 : BitVec 32).toInt = 100000 from by decide, decide_eq_true_eq]
  omega

/-- The score of a real logit and a draw in [0, 1]. -/
theorem score1_coe {l u : ℝ} (h0 : 0 ≤ u) (h1 : u ≤ 1) :
    score1 (l : EReal) (u : EReal) = (Real.exp l / weight u : EReal) := by
  have hw := (weight_pos h0 h1).ne'
  have e : (0 : EReal) - (Real.log (u + c) : EReal) + (c : EReal) = (weight u : EReal) := by
    rw [← EReal.coe_zero, ← EReal.coe_sub, ← EReal.coe_add, weight, zero_sub]
  rw [score1, tiny, ofBits_c, log_noise h0, e, Ideal.exp_coe, Ideal.div_coe hw, ← EReal.coe_mul, ← EReal.coe_div]
  congr 1
  ring

/-- The sum that picks the action's logit out of a block. -/
theorem act_block (x : Fin 12544 → EReal) (l : ℕ → ℝ) (t : ℕ) (ht : t < 8) (z : BitVec 32) (hz : z.toNat < 100000)
    (hx : ∀ k : Fin 12544, 12544 * t + k.val < 100000 → x k = (l (12544 * t + k.val) : EReal)) :
    (∑ k : Fin 12544, Scalar.select (IntOp.cmpi .eq (col (BitVec.ofNat 32 t) k) z) (x k) 0)
      = if 12544 * t ≤ z.toNat ∧ z.toNat < 12544 * t + 12544 then (l z.toNat : EReal) else 0 := by
  have hc : ∀ k : Fin 12544, IntOp.cmpi .eq (col (BitVec.ofNat 32 t) k) z = 1#1 ↔ 12544 * t + k.val = z.toNat := fun k => by
    have hk := k.isLt
    rw [col_eq]
    simp only [IntOp.cmpi, ofBool_iff, beq_iff_eq]
    rw [← BitVec.toNat_inj, BitVec.toNat_ofNat, Nat.mod_eq_of_lt (by omega)]
  simp only [select_eq, hc]
  split
  next h =>
    have hk : z.toNat - 12544 * t < 12544 := by omega
    rw [Finset.sum_eq_single (⟨z.toNat - 12544 * t, hk⟩ : Fin 12544)]
    · rw [if_pos (by simp only; omega), hx _ (by simp only; omega)]
      congr 2
      simp only; omega
    · intro k _ hne
      rw [if_neg]
      intro e
      exact hne (Fin.ext (by simp only; omega))
    · intro h; exact absurd (Finset.mem_univ _) h
  next h =>
    refine Finset.sum_eq_zero fun k _ => if_neg fun e => h ?_
    have hk := k.isLt
    omega

/-- What a row of the scratch holds after `n` columns of the row. -/
structure Inv (A N : Vec Ideal S128x100000 .f32) (a : Vec Ideal S128 .i32) (r : Fin 128) (n : ℕ) (s : Cols Ideal) : Prop where
  sum : (s.sum (ix2 r 0) : EReal) = ((∑ j ∈ Finset.range n, Real.exp (at_ A r j) : ℝ) : EReal)
  best : Held (score A N r) n (s.best (ix2 r 0)) (s.idx (ix2 r 0))
  act : (s.act (ix2 r 0) : EReal) = if (a (ix1 r)).toNat < n then (at_ A r (a (ix1 r)).toNat : EReal) else 0

variable {A N : Vec Ideal S128x100000 .f32} {a : Vec Ideal S128 .i32}

theorem inv_start (r : Fin 128) : Inv A N a r 0 start where
  sum := by rw [start_sum]; simp
  best := Or.inl ⟨rfl, by rw [start_best, ninf, ofBits_ninf]⟩
  act := by rw [start_act]; simp

/-- What the block at `t` stages of row `r`. -/
structure Staged (A N : Vec Ideal S128x100000 .f32) (a : Vec Ideal S128 .i32) (r : Fin 128) (t : ℕ)
    (X Y : Vec Ideal S128x12544 .f32) (Z : Vec Ideal S128x1 .i32) : Prop where
  x : ∀ k : Fin 12544, 12544 * t + k.val < 100000 → (X (ix2 r k) : EReal) = (at_ A r (12544 * t + k.val) : EReal)
  y : ∀ k : Fin 12544, 12544 * t + k.val < 100000 → (Y (ix2 r k) : EReal) = (at_ N r (12544 * t + k.val) : EReal)
  z : Z (ix2 r 0) = a (ix1 r)

variable {r : Fin 128} {t : ℕ} {X Y : Vec Ideal S128x12544 .f32} {Z : Vec Ideal S128x1 .i32} {s : Cols Ideal}

theorem Staged.score (h : Staged A N a r t X Y Z) (hi : Inputs A N a) (k : Fin 12544) (hk : 12544 * t + k.val < 100000) :
    score1 (X (ix2 r k)) (Y (ix2 r k)) = (score A N r (12544 * t + k.val) : EReal) := by
  rw [h.x k hk, h.y k hk, score1_coe (hi.noise_mem r _).1 (hi.noise_mem r _).2]
  rfl

theorem act_step (h : Staged A N a r t X Y Z) (hi : Inputs A N a) (ht : t < 8) (hs : Inv A N a r (12544 * t) s) :
    s.act (ix2 r 0) + ∑ k : Fin 12544, Scalar.select (IntOp.cmpi .eq (col (BitVec.ofNat 32 t) k) (Z (ix2 r 0))) (X (ix2 r k)) 0
      = if (a (ix1 r)).toNat < 12544 * t + 12544 then (at_ A r (a (ix1 r)).toNat : EReal) else 0 := by
  have e := act_block (fun k => X (ix2 r k)) (at_ A r) t ht (Z (ix2 r 0)) (by rw [h.z]; exact hi.act _) h.x
  rw [e, hs.act, h.z]
  by_cases h1 : (a (ix1 r)).toNat < 12544 * t
  · rw [if_pos h1, if_neg (by omega), if_pos (by omega), add_zero]
  · by_cases h2 : (a (ix1 r)).toNat < 12544 * t + 12544
    · rw [if_neg h1, if_pos (by omega), if_pos h2, zero_add]
    · rw [if_neg h1, if_neg (by omega), if_neg h2, add_zero]

/-- A block that lies inside the array. -/
theorem inv_inner (h : Staged A N a r t X Y Z) (hi : Inputs A N a) (ht : t < 7) (hs : Inv A N a r (12544 * t) s) :
    Inv A N a r (12544 * t + 12544) (IdealBody.inner (BitVec.ofNat 32 t) X Y Z s) := by
  have hin : ∀ k : Fin 12544, 12544 * t + k.val < 100000 := fun k => by have := k.isLt; omega
  have hp : ∀ k : Fin 12544, (k0_pay10 X Y (ix2 r k) : EReal) = (score A N r (12544 * t + k.val) : EReal) := fun k => by
    rw [pay10_apply, h.score hi k (hin k)]
  obtain ⟨k', hk'⟩ := exists_isFirst (fun j => score A N r (12544 * t + j)) 12544 (by norm_num)
  have hm : (k0_pay12 X Y (ix2 r 0) : EReal) = (score A N r (12544 * t + k') : EReal) := by
    rw [pay12_apply, ninf, ofBits_ninf]
    exact fold_max (f := fun j => score A N r (12544 * t + j)) _ le_rfl (fun j _ => hp j) (fun j hj => absurd j.isLt hj) hk'
  have hx : k0_pay13 (BitVec.ofNat 32 t) X Y (ix2 r 0) = BitVec.ofNat 32 (12544 * t + k') := by
    rw [pay13_apply]
    refine fold_min (f := fun j => score A N r (12544 * t + j)) (w := 12544) (fun k => k0_pay10 X Y (ix2 r k)) _ (12544 * t) (by omega) le_rfl
      (fun j _ => hp j) (fun j hj => absurd j.isLt hj) hk' (fun j => ?_)
    rw [hm, col_eq]
  refine ⟨?_, ?_, ?_⟩
  · rw [inner_sum, hs.sum, sum_block (f := fun j => Real.exp (at_ A r (12544 * t + j))) (w := 12544) _ le_rfl
      (fun j _ => by rw [h.x j (hin j), Ideal.exp_coe]) (fun j hj => absurd j.isLt hj), ← EReal.coe_add, Finset.sum_range_add]
  · rw [inner_best, inner_idx]
    exact hs.best.step hk' hm hx (by omega)
  · rw [inner_act, act_step h hi (by omega) hs]

/-- The last block, cut at the end of the array. -/
theorem inv_outer (h : Staged A N a r 7 X Y Z) (hi : Inputs A N a) (hs : Inv A N a r 87808 s) :
    Inv A N a r 100000 (IdealBody.outer (BitVec.ofNat 32 7) X Y Z s) := by
  have hv := valid_eq 7 (by norm_num)
  have hp : ∀ k : Fin 12544, k.val < 12192 →
      (k0_pay19 (BitVec.ofNat 32 7) ninf X Y (ix2 r k) : EReal) = (score A N r (87808 + k.val) : EReal) := fun k hk => by
    rw [pay19_apply, select_eq, if_pos ((hv k).2 (by omega)), h.score hi k (by omega)]
  have hq : ∀ k : Fin 12544, ¬ k.val < 12192 → (k0_pay19 (BitVec.ofNat 32 7) ninf X Y (ix2 r k) : EReal) = ⊥ := fun k hk => by
    rw [pay19_apply, select_eq, if_neg (fun e => hk (by have := (hv k).1 e; omega)), ninf, ofBits_ninf]
  obtain ⟨k', hk'⟩ := exists_isFirst (fun j => score A N r (87808 + j)) 12192 (by norm_num)
  have hm : (k0_pay21 (BitVec.ofNat 32 7) ninf X Y (ix2 r 0) : EReal) = (score A N r (87808 + k') : EReal) := by
    rw [pay21_apply]
    exact fold_max_init (f := fun j => score A N r (87808 + j)) _ ofBits_ninf (by norm_num) hp hq hk'
  have hx : k0_pay22 (BitVec.ofNat 32 7) ninf X Y (ix2 r 0) = BitVec.ofNat 32 (87808 + k') := by
    rw [pay22_apply]
    refine fold_min (f := fun j => score A N r (87808 + j)) (w := 12192) (fun k => k0_pay19 (BitVec.ofNat 32 7) ninf X Y (ix2 r k)) _ 87808
      (by norm_num) (by norm_num) hp hq hk' (fun j => ?_)
    rw [hm, col_eq]
  refine ⟨?_, ?_, ?_⟩
  · rw [outer_sum, hs.sum, sum_block (f := fun j => Real.exp (at_ A r (87808 + j))) (w := 12192) _ (by norm_num)
      (fun j hj => by rw [select_eq, if_pos ((hv j).2 (by omega)), h.x j (by omega), Ideal.exp_coe])
      (fun j hj => by rw [select_eq, if_neg (fun e => hj (by have := (hv j).1 e; omega))]), ← EReal.coe_add,
      show 100000 = 87808 + 12192 from rfl, Finset.sum_range_add]
  · rw [outer_best, outer_idx]
    exact hs.best.step hk' hm hx (by norm_num)
  · rw [outer_act, act_step h hi (by norm_num) hs]
    have := hi.act (ix1 r)
    rw [if_pos (by omega), if_pos this]

end Cert.IdealBody

end
-- ==== Proof.KernelValue.lean ====
/-
  The kernel's results in the extended reals, on inputs as they are drawn.
-/
module

public import proofs.«01_k».proof.Proof.IdealWindow
public import proofs.«01_k».proof.Proof.IdealBlock

@[expose] public section

set_option maxRecDepth 16384

noncomputable section

namespace Cert.IdealBody

open Cert.KernelIdeal Cert.KernelIdeal.Gen Cert.Rows Cert.Drawn
open Idealize.ShloMosaic Idealize.ShloMosaic.TcCoe Idealize.SL.Sem
open Idealize.ShloMosaic.Pipeline (Window)

/-- The first of the columns with the greatest score. -/
def winner (A N : Vec Ideal S128x100000 .f32) (r : Fin 128) : ℕ := Classical.choose (exists_isFirst (score A N r) 100000 (by norm_num))

theorem winner_spec (A N : Vec Ideal S128x100000 .f32) (r : Fin 128) : IsFirst (score A N r) 100000 (winner A N r) :=
  Classical.choose_spec (exists_isFirst (score A N r) 100000 (by norm_num))

/-- The sampled actions. -/
def sampled (A N : Vec Ideal S128x100000 .f32) : Vec Ideal S128x1 .i32 := fun i => BitVec.ofNat 32 (winner A N (i 0))

/-- The logarithms of the softmax at the actions given. -/
def selected (A : Vec Ideal S128x100000 .f32) (a : Vec Ideal S128 .i32) : Vec Ideal S128x1 .f32 := fun i =>
  ((at_ A (i 0) (a (ix1 (i 0))).toNat - Real.log (∑ j ∈ Finset.range 100000, Real.exp (at_ A (i 0) j)) : ℝ) : EReal)

theorem sum_exp_pos (l : ℕ → ℝ) : 0 < ∑ j ∈ Finset.range 100000, Real.exp (l j) :=
  Finset.sum_pos (fun _ _ => Real.exp_pos _) ⟨0, Finset.mem_range.2 (by norm_num)⟩

variable {A N : Vec Ideal S128x100000 .f32} {a : Vec Ideal S128 .i32} {s : Cols Ideal}

theorem results (hi : Inputs A N a) (h : ∀ r, Inv A N a r 100000 s) : picked s = sampled A N ∧ logProb s = selected A a := by
  constructor
  · funext i
    obtain ⟨r, z, rfl⟩ : ∃ (r : Fin 128) (z : Fin 1), i = ix2 r z := ⟨i 0, i 1, by funext x; match x with | ⟨0, _⟩ => rfl | ⟨1, _⟩ => rfl⟩
    obtain rfl : z = 0 := Subsingleton.elim _ _
    rcases (h r).best with ⟨h0, _⟩ | ⟨k, hk, _, hx⟩
    · exact absurd h0 (by norm_num)
    · refine hx.trans ?_
      rw [hk.unique (winner_spec A N r)]
      rfl
  · funext i
    obtain ⟨r, z, rfl⟩ : ∃ (r : Fin 128) (z : Fin 1), i = ix2 r z := ⟨i 0, i 1, by funext x; match x with | ⟨0, _⟩ => rfl | ⟨1, _⟩ => rfl⟩
    obtain rfl : z = 0 := Subsingleton.elim _ _
    rw [logProb_apply, (h r).sum, (h r).act, if_pos (hi.act _), Ideal.log_coe, if_neg (not_le.2 (sum_exp_pos _)), ← EReal.coe_sub]
    rfl

variable (m : (ℓ : Loc nD τ sig) → Buf (Elt Ideal) ℓ)

/-- The arguments on a device. -/
abbrev argA (c : Dev nD) : Vec Ideal S128x100000 .f32 := m ((c.tc : Thread nD τ).loc main_arg0)
abbrev argN (c : Dev nD) : Vec Ideal S128x100000 .f32 := m ((c.tc : Thread nD τ).loc main_arg1)
abbrev argI (c : Dev nD) : Vec Ideal S128 .i32 := m ((c.tc : Thread nD τ).loc main_arg2)

theorem staged (hi : ∀ c, Inputs (argA m c) (argN m c) (argI m c)) (c : Dev nD) (t : Fin cfg0.N) (d1 d2 : Vec Ideal S128x12544 .f32) (r : Fin 128) :
    Staged (argA m c) (argN m c) (argI m c) r t.val (win0_0.fill (grid0.coords t) d1 (iblk m c 0 t))
      (win0_1.fill (grid0.coords t) d2 (iblk m c 1 t)) (iblk m c 2 t) where
  x k hk := (block_0 m c t d1 r k hk).trans ((hi c).logit_eq r _ hk)
  y k hk := (block_1 m c t d2 r k hk).trans ((hi c).noise_eq r _ hk)
  z := block_2 m c t r

/-- The columns of the scratch before point `t`. -/
def Ok (c : Dev nD) (t : ℕ) (s : Cols Ideal) : Prop :=
  0 < t → ∀ r, Inv (argA m c) (argN m c) (argI m c) r (min (12544 * t) 100000) s

theorem ok_step (hi : ∀ c, Inputs (argA m c) (argN m c) (argI m c)) (c : Dev nD) (t : Fin cfg0.N) (d1 d2 : Vec Ideal S128x12544 .f32)
    (s : Cols Ideal) (h : Ok m c t.val s) : Ok m c (t.val + 1) (nextAt m c t d1 d2 s) := fun _ r => by
  have hst := staged m hi c t d1 d2 r
  have ht : t.val < 8 := t.isLt
  unfold nextAt next
  by_cases h0 : t.val = 0
  · rw [if_pos h0]
    have := inv_inner hst (hi c) (by omega) (s := start) (by rw [h0]; exact inv_start r)
    rw [show min (12544 * (t.val + 1)) 100000 = 12544 * t.val + 12544 by omega]
    exact this
  · have hs := h (Nat.pos_of_ne_zero h0) r
    rw [if_neg h0]
    by_cases h7 : t.val = 7
    · rw [if_pos h7, h7]
      rw [h7] at hs hst
      exact inv_outer hst (hi c) hs
    · rw [if_neg h7, show min (12544 * (t.val + 1)) 100000 = 12544 * t.val + 12544 by omega]
      rw [show min (12544 * t.val) 100000 = 12544 * t.val by omega] at hs
      exact inv_inner hst (hi c) (by omega) hs

/-- Every run ends with the sampled actions and the logarithms of the softmax at the actions given. -/
theorem run_drawn (g : Dev nD → PrngReg) (hi : ∀ c, Inputs (argA m c) (argN m c) (argI m c)) :
    θ_run defs (onTc (τ := τ) (main (F := Ideal))) ⟨m, fun _ => 0, g⟩ (fun r => ∀ c : Dev nD,
      r.2.mem ((c.tc : Thread nD τ).loc main_v2) = shapeCast S128 (sampled (argA m c) (argN m c)) shapeCasts_S128x1_S128
      ∧ r.2.mem ((c.tc : Thread nD τ).loc main_v3) = shapeCast S128 (selected (argA m c) (argI m c)) shapeCasts_S128x1_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_value m (fun c => sampled (argA m c) (argN m c)) (fun c => selected (argA m c) (argI m c)) (Ok m) g
    (fun _ _ h => absurd h (lt_irrefl 0)) (ok_step m hi)
    (fun c s h => results (hi c) fun r => h (by norm_num) r)

/-- The results as flat rows. -/
theorem sampled_flat (A N : Vec Ideal S128x100000 .f32) (r : Fin 128) :
    shapeCast S128 (sampled A N) shapeCasts_S128x1_S128 (ix1 r) = BitVec.ofNat 32 (winner A N r) := by
  pointwise [sampled]

theorem selected_flat (A : Vec Ideal S128x100000 .f32) (a : Vec Ideal S128 .i32) (r : Fin 128) :
    shapeCast S128 (selected A a) shapeCasts_S128x1_S128 (ix1 r)
      = ((at_ A r (a (ix1 r)).toNat - Real.log (∑ j ∈ Finset.range 100000, Real.exp (at_ A r j)) : ℝ) : EReal) := by
  pointwise [selected]

end Cert.IdealBody

end
-- ==== Proof.RefRead.lean ====
/-
  The references' steps, read at one entry in the extended reals.
-/
module

public import proofs.«01_k».proof.Proof.RefTerms
public import Idealize.ShloMosaic.Lib.Pointwise

@[expose] public section

noncomputable section

namespace Cert.RefTerms

open Cert.ReferenceIdeal Cert.ReferenceIdeal.Gen Idealize.ShloMosaic

variable (A N q : Vec Ideal S128x100000 .f32) (a : Vec Ideal S128 .i32) (r : Fin 128) (j : Fin 100000)

theorem total_apply : total A (ix1 r) = ∑ k : Fin 100000, Ideal.exp (shifted A (ix2 r k)) := by
  pointwise [total]

theorem probs_apply : probs A (ix2 r j) = Ideal.div (Ideal.exp (shifted A (ix2 r j))) (total A (ix1 r)) := by
  pointwise [probs, spread]

theorem splat_apply (w : BitVec 32) : splat (F := Ideal) w (ix2 r j) = Ideal.ofBits .f32 w := by
  pointwise [splat]

theorem keyOf_apply : keyOf q N (ix2 r j) = Ideal.log (q (ix2 r j)) + -Ideal.log (-Ideal.log (N (ix2 r j) + Ideal.ofBits .f32 0x2EDBE6FF#32)
    + Ideal.ofBits .f32 0x2EDBE6FF#32) := by
  pointwise [keyOf, gumbel, splat]

theorem logProbs_apply : logProbs A (ix2 r j) = shifted A (ix2 r j) - Ideal.log (total A (ix1 r)) := by
  pointwise [logProbs]

theorem shifted_apply : shifted A (ix2 r j) = A (ix2 r j) - top A (ix1 r) := by
  pointwise [shifted, spread]

theorem wrapped_apply : wrapped (F := Ideal) a (ix2 r 0)
    = Scalar.select (IntOp.cmpi .slt (IntOp.addi (IntOp.muli (BitVec.ofNat 32 r.val) 100000#32) (a (ix1 r))) 0#32)
      (IntOp.addi (IntOp.addi (IntOp.muli (BitVec.ofNat 32 r.val) 100000#32) (a (ix1 r))) 12800000#32)
      (IntOp.addi (IntOp.muli (BitVec.ofNat 32 r.val) 100000#32) (a (ix1 r))) := by
  pointwise [wrapped, place]

theorem inside_apply : inside (F := Ideal) a (ix1 r) = Finset.univ.fold IntOp.andi 1#1 fun x : Fin 1 =>
    IntOp.andi (IntOp.cmpi .sge (wrapped (F := Ideal) a (ix2 r x)) 0#32) (IntOp.cmpi .sle (wrapped (F := Ideal) a (ix2 r x)) 12799999#32) := by
  pointwise [inside]

theorem taken_apply (L : Vec Ideal S128x100000 .f32) : taken L a (ix1 r) = Scalar.select (inside (F := Ideal) a (ix1 r))
    (Host.gather gather_S12800000_S128x1_S128_n_0_n_n_0_1_1 (shapeCast S12800000 L shapeCasts_S128x100000_S12800000) (wrapped (F := Ideal) a) (ix1 r))
    (Ideal.ofBits .f32 0x7FC00000#32) := rfl

end Cert.RefTerms

end
-- ==== Proof.Argmax.lean ====
/-
  The references' search for the first of the greatest entries of a row, and a row's greatest entry.
-/
module

public import proofs.«01_k».proof.Proof.RefTerms
public import proofs.«01_k».proof.Proof.Winner

@[expose] public section

noncomputable section

namespace Cert.Rows

open Idealize.ShloMosaic

/-- One step of the search, on a value and its column each. -/
def pick (a b : EReal × BitVec 32) : EReal × BitVec 32 := Cert.ReferenceIdeal.reducer_argmax_f32_i32 (F := Ideal) a b

/-- `b` comes before `a`: greater, or equal at a smaller column. -/
def Before (a b : EReal × BitVec 32) : Prop := a.1 < b.1 ∨ (a.1 = b.1 ∧ b.2.toInt ≤ a.2.toInt)

theorem Before.trans {a b c : EReal × BitVec 32} (h : Before a b) (h' : Before b c) : Before a c := by
  rcases h with h | ⟨h, hi⟩ <;> rcases h' with h' | ⟨h', hi'⟩
  · exact Or.inl (h.trans h')
  · exact Or.inl (h.trans_eq h')
  · exact Or.inl (h.trans_lt h')
  · exact Or.inr ⟨h.trans h', hi'.trans hi⟩

theorem Before.refl (a : EReal × BitVec 32) : Before a a := Or.inr ⟨rfl, le_rfl⟩

theorem pick_eq (a b : EReal × BitVec 32) :
    pick a b = if b.1 < a.1 ∨ (a.1 = b.1 ∧ a.2.toInt < b.2.toInt) then a else b := by
  obtain ⟨a1, a2⟩ := a
  obtain ⟨b1, b2⟩ := b
  unfold pick Cert.ReferenceIdeal.reducer_argmax_f32_i32
  simp only [Ideal.cmpf_def, Ideal.cmp, IntOp.cmpi, BitVec.slt, IntOp.ori, IntOp.andi, Scalar.select]
  by_cases h1 : b1 < a1
  · simp [h1, h1.ne']
  · by_cases h2 : a1 = b1
    · subst h2
      by_cases h3 : a2.toInt < b2.toInt <;> simp [h3]
    · simp [h1, h2]

/-- A step keeps one of the two, and both come no earlier than it. -/
theorem pick_spec (a b : EReal × BitVec 32) : (pick a b = a ∨ pick a b = b) ∧ Before a (pick a b) ∧ Before b (pick a b) := by
  rw [pick_eq]
  split
  next h =>
    refine ⟨Or.inl rfl, Before.refl a, ?_⟩
    rcases h with h | ⟨h, hi⟩
    · exact Or.inl h
    · exact Or.inr ⟨h.symm, hi.le⟩
  next h =>
    refine ⟨Or.inr rfl, ?_, Before.refl b⟩
    push Not at h
    rcases lt_or_eq_of_le h.1 with hl | he
    · exact Or.inl hl
    · exact Or.inr ⟨he, h.2 he⟩

theorem foldl_pick (L : List (EReal × BitVec 32)) : ∀ a : EReal × BitVec 32,
    (L.foldl pick a = a ∨ L.foldl pick a ∈ L) ∧ Before a (L.foldl pick a) ∧ ∀ q ∈ L, Before q (L.foldl pick a) := by
  induction L with
  | nil => exact fun a => ⟨Or.inl rfl, Before.refl a, fun q hq => absurd hq List.not_mem_nil⟩
  | cons b L ih =>
    intro a
    obtain ⟨hm, ha, hL⟩ := ih (pick a b)
    obtain ⟨hp, ha', hb'⟩ := pick_spec a b
    simp only [List.foldl_cons, List.mem_cons]
    refine ⟨?_, ha'.trans ha, fun q hq => ?_⟩
    · rcases hm with hm | hm
      · rw [hm]
        rcases hp with hp | hp
        · exact Or.inl hp
        · exact Or.inr (Or.inl hp)
      · exact Or.inr (Or.inr hm)
    · rcases hq with rfl | hq
      · exact hb'.trans ha
      · exact hL q hq

/-- Over the entries of a row of reals, each with its column, the search ends at the first of the greatest. -/
theorem foldl_pick_row {f : ℕ → ℝ} {n k : ℕ} (hn : n < 2147483648) (L : List (EReal × BitVec 32))
    (hm : ∀ p ∈ L, ∃ j < n, p = ((f j : EReal), BitVec.ofNat 32 j)) (hall : ∀ j < n, ((f j : EReal), BitVec.ofNat 32 j) ∈ L)
    (hk : IsFirst f n k) : (L.foldl pick (⊥, 0#32)).2 = BitVec.ofNat 32 k := by
  obtain ⟨h, _, hL⟩ := foldl_pick L (⊥, 0#32)
  have hb := hL _ (hall k hk.1)
  rcases h with h | h
  · rw [h] at hb
    rcases hb with hb | ⟨hb, _⟩
    · exact absurd hb not_lt_bot
    · exact absurd hb (EReal.coe_ne_bot _)
  · obtain ⟨j, hj, e⟩ := hm _ h
    rw [e] at hb ⊢
    have hle := hk.2.1 j hj
    rcases hb with hb | ⟨hb, hi⟩
    · exact absurd (EReal.coe_lt_coe_iff.1 hb) (not_lt.2 hle)
    · have hkn := hk.1
      simp only [toInt_ofNat (show j < 2147483648 by omega), toInt_ofNat (show k < 2147483648 by omega)] at hi
      have hi' : j ≤ k := by exact_mod_cast hi
      rcases lt_or_eq_of_le hi' with hlt | rfl
      · exact absurd (EReal.coe_eq_coe_iff.1 hb) (hk.2.2 j hlt).ne'
      · rfl

section Fiber
variable {s t u : Shape} {axes : List (Fin s.rank)}

/-- The search over the entries that reduce into `j`, whose values and columns are those of a row of reals. -/
theorem argReduce_row (x : FVec Ideal s .f32) (y : s.Idx → BitVec 32) (ix : u.Idx → Ideal .f32) (iy : u.Idx → BitVec 32)
    (h : s.ReducesTo axes t) (hu : 0 < u.numel) (j : t.Idx) (hx : ix (Shape.Idx.first hu) = (⊥ : EReal)) (hy : iy (Shape.Idx.first hu) = 0#32)
    {f : ℕ → ℝ} {n k : ℕ} (hn : n < 2147483648)
    (hm : ∀ i, h.drop i = j → ∃ p < n, (x i : EReal) = (f p : EReal) ∧ y i = BitVec.ofNat 32 p)
    (hall : ∀ p < n, ∃ i, h.drop i = j ∧ (x i : EReal) = (f p : EReal) ∧ y i = BitVec.ofNat 32 p)
    (hk : IsFirst f n k) : (Host.argReduce (Cert.ReferenceIdeal.reducer_argmax_f32_i32 (F := Ideal)) x y ix iy h hu j).2 = BitVec.ofNat 32 k := by
  rw [Ideal.argReduce_eq_reduce2, Host.reduce2_eq_foldl_fiber, hx, hy]
  refine foldl_pick_row hn (Host.argReduceFiber x y h j) (fun p hp => ?_) (fun p hp => ?_) hk
  · obtain ⟨q, hq, rfl⟩ := List.mem_map.1 hp
    obtain ⟨p, hp, e1, e2⟩ := hm _ (of_decide_eq_true (List.mem_filter.1 hq).2)
    exact ⟨p, hp, Prod.ext e1 e2⟩
  · obtain ⟨i, hi, e1, e2⟩ := hall p hp
    refine List.mem_map.2 ⟨s.rowMajor i, List.mem_filter.2 ⟨List.mem_finRange _, ?_⟩, ?_⟩
    · simp [hi]
    · simp only [Equiv.symm_apply_apply]
      exact Prod.ext e1 e2

/-- The greatest of the entries that reduce into `j`, of a row of reals. -/
theorem reduce_max_row (x : FVec Ideal s .f32) (init : u.Idx → Ideal .f32) (h : s.ReducesTo axes t) (hu : 0 < u.numel) (j : t.Idx)
    (hx : init (Shape.Idx.first hu) = (⊥ : EReal)) {f : ℕ → ℝ} {n k : ℕ}
    (hm : ∀ i, h.drop i = j → ∃ p < n, (x i : EReal) = (f p : EReal))
    (hall : ∀ p < n, ∃ i, h.drop i = j ∧ (x i : EReal) = (f p : EReal)) (hk : IsFirst f n k) :
    (Host.reduce (FloatOps.maximumf (F := Ideal) (φ := .f32)) x init h hu j) = (f k : EReal) := by
  rw [Host.reduce_eq_fold, hx]
  change Finset.fold (max : EReal → EReal → EReal) ⊥ x _ = _
  apply le_antisymm
  · rw [Finset.fold_max_le]
    refine ⟨bot_le, fun i hi => ?_⟩
    obtain ⟨p, hp, e⟩ := hm i (Finset.mem_filter.1 hi).2
    rw [e]
    exact EReal.coe_le_coe_iff.2 (hk.2.1 p hp)
  · rw [Finset.le_fold_max]
    obtain ⟨i, hi, e⟩ := hall k hk.1
    exact Or.inr ⟨i, Finset.mem_filter.2 ⟨Finset.mem_univ _, hi⟩, e.ge⟩

end Fiber

section Rank2
variable {n0 n1 : ℕ}

/-- The entries of a row reduce into it. -/
theorem drop_row (h : (⟨2, ![n0, n1]⟩ : Shape).ReducesTo [1] ⟨1, ![n0]⟩) (r : Fin n0) (k : Fin n1) : h.drop (ix2 r k) = ix1 r :=
  (h.fiber_r2_a1 (ix1 r) (ix2 r k)).2 ⟨k, rfl⟩

theorem of_drop_row (h : (⟨2, ![n0, n1]⟩ : Shape).ReducesTo [1] ⟨1, ![n0]⟩) (r : Fin n0) (i : (⟨2, ![n0, n1]⟩ : Shape).Idx)
    (e : h.drop i = ix1 r) : ∃ k : Fin n1, i = ix2 r k := by
  obtain ⟨k, hk⟩ := (h.fiber_r2_a1 (ix1 r) i).1 e
  exact ⟨k, hk.symm⟩

end Rank2

end Cert.Rows

end
-- ==== Proof.RefValue.lean ====
/-
  What the references' steps hold on inputs as they are drawn: softmax, its logarithm, the noisy key and the entry taken.
-/
module

public import proofs.«01_k».proof.Proof.RefRead
public import proofs.«01_k».proof.Proof.Argmax
public import proofs.«01_k».proof.Proof.Drawn
public import Idealize.ShloMosaic.Lib.Routing.OpsSet

@[expose] public section

noncomputable section

namespace Cert.RefTerms

open Cert.ReferenceIdeal Cert.ReferenceIdeal.Gen Cert.Rows Cert.Drawn Idealize.ShloMosaic

variable {A N : Vec Ideal S128x100000 .f32} {a : Vec Ideal S128 .i32}

/-- The sum of a row's exponentials. -/
def mass (A : Vec Ideal S128x100000 .f32) (r : Fin 128) : ℝ := ∑ j ∈ Finset.range 100000, Real.exp (at_ A r j)

/-- A column's share of it. -/
def prob (A : Vec Ideal S128x100000 .f32) (r : Fin 128) (j : ℕ) : ℝ := Real.exp (at_ A r j) / mass A r

theorem mass_pos (A : Vec Ideal S128x100000 .f32) (r : Fin 128) : 0 < mass A r :=
  Finset.sum_pos (fun _ _ => Real.exp_pos _) ⟨0, Finset.mem_range.2 (by norm_num)⟩

theorem prob_pos (A : Vec Ideal S128x100000 .f32) (r : Fin 128) (j : ℕ) : 0 < prob A r j := div_pos (Real.exp_pos _) (mass_pos A r)

/-- The greater of two arrays at an index. -/
theorem maximumf_at {s : Shape} (x y : FVec Ideal s .f32) (i : s.Idx) : maximumf x y i = (max (x i : EReal) (y i) : EReal) := rfl

theorem top_eq (A : Vec Ideal S128x100000 .f32) : top A = maximumf (broadcastInDim S128 ![] bcast_S_S128 (constant (F := Ideal) S_ .f32 0xFF800000#32))
    (Host.reduce (FloatOps.maximumf (F := Ideal) (φ := .f32)) A (constant (F := Ideal) S_ .f32 0xFF800000#32) reducesTo_S128x100000_S128_d1 h_S_) := by
  delta top
  exact rfl

theorem firstBest_eq (K : Vec Ideal S128x100000 .f32) : firstBest K = fun j =>
    (Host.argReduce (Cert.ReferenceIdeal.reducer_argmax_f32_i32 (F := Ideal)) K (iotaInDim S128x100000 32 1) (constant (F := Ideal) S_ .f32 0xFF800000#32)
      (constantI S_ 32 0#32) reducesTo_S128x100000_S128_d1 h_S_ j).2 := by
  delta firstBest
  exact rfl

/-- The greatest of a row of reals. -/
theorem greatest_row (K : Vec Ideal S128x100000 .f32) (r : Fin 128) {f : ℕ → ℝ} {k : ℕ} (hK : ∀ j : Fin 100000, K (ix2 r j) = (f j.val : EReal))
    (hk : IsFirst f 100000 k) :
    Host.reduce (FloatOps.maximumf (F := Ideal) (φ := .f32)) K (constant (F := Ideal) S_ .f32 0xFF800000#32) reducesTo_S128x100000_S128_d1 h_S_ (ix1 r)
      = (f k : EReal) := by
  refine reduce_max_row K _ _ _ (ix1 r) ofBits_ninf (fun i hd => ?_) (fun p hp => ?_) hk
  · obtain ⟨j, rfl⟩ := of_drop_row _ r i hd
    exact ⟨j.val, j.isLt, hK j⟩
  · exact ⟨ix2 r ⟨p, hp⟩, drop_row _ r _, hK ⟨p, hp⟩⟩

/-- A row's greatest logit is a real. -/
theorem top_coe (hi : Inputs A N a) (r : Fin 128) : ∃ M : ℝ, top A (ix1 r) = (M : EReal) := by
  obtain ⟨k, hk⟩ := exists_isFirst (at_ A r) 100000 (by norm_num)
  refine ⟨at_ A r k, ?_⟩
  rw [top_eq, maximumf_at, greatest_row A r (fun j => hi.logit_eq r j.val j.isLt) hk]
  refine (congrArg (fun b : EReal => max b (at_ A r k : EReal)) (ofBits_ninf : _ = (⊥ : EReal))).trans ?_
  exact max_eq_right bot_le

/-- The sum of the shifted exponentials. -/
theorem sum_shift (A : Vec Ideal S128x100000 .f32) (r : Fin 128) (M : ℝ) :
    ∑ j ∈ Finset.range 100000, Real.exp (at_ A r j - M) = mass A r / Real.exp M := by
  rw [mass, Finset.sum_div]
  exact Finset.sum_congr rfl fun j _ => Real.exp_sub _ _

theorem total_coe (hi : Inputs A N a) (r : Fin 128) {M : ℝ} (hM : top A (ix1 r) = (M : EReal)) :
    total A (ix1 r) = ((mass A r / Real.exp M : ℝ) : EReal) := by
  rw [total_apply, ← sum_shift]
  refine sum_block (f := fun j => Real.exp (at_ A r j - M)) (w := 100000) _ le_rfl (fun j _ => ?_) (fun j hj => absurd j.isLt hj)
  rw [shifted_apply, hM, hi.logit_eq r j.val j.isLt, ← EReal.coe_sub, Ideal.exp_coe]

theorem probs_coe (hi : Inputs A N a) (r : Fin 128) (j : Fin 100000) : probs A (ix2 r j) = (prob A r j.val : EReal) := by
  obtain ⟨M, hM⟩ := top_coe hi r
  have hp := (div_pos (mass_pos A r) (Real.exp_pos M)).ne'
  rw [probs_apply, total_coe hi r hM, shifted_apply, hM, hi.logit_eq r j.val j.isLt, ← EReal.coe_sub, Ideal.exp_coe, Ideal.div_coe hp,
    ← EReal.coe_mul, prob, Real.exp_sub]
  have := (mass_pos A r).ne'
  have := (Real.exp_pos M).ne'
  refine congrArg (fun x : ℝ => (x : EReal)) ?_
  field_simp

theorem logProbs_coe (hi : Inputs A N a) (r : Fin 128) (j : Fin 100000) :
    logProbs A (ix2 r j) = ((at_ A r j.val - Real.log (mass A r) : ℝ) : EReal) := by
  obtain ⟨M, hM⟩ := top_coe hi r
  have hp := div_pos (mass_pos A r) (Real.exp_pos M)
  rw [logProbs_apply, total_coe hi r hM, shifted_apply, hM, hi.logit_eq r j.val j.isLt, ← EReal.coe_sub, Ideal.log_coe, if_neg (not_le.2 hp),
    ← EReal.coe_sub, Real.log_div (mass_pos A r).ne' (Real.exp_pos M).ne', Real.log_exp]
  refine congrArg (fun x : ℝ => (x : EReal)) ?_
  ring

/-- The weight, as the references write it. -/
theorem weight_coe (hi : Inputs A N a) (r : Fin 128) (j : Fin 100000) :
    -Ideal.log (N (ix2 r j) + Ideal.ofBits .f32 0x2EDBE6FF#32) + Ideal.ofBits .f32 0x2EDBE6FF#32 = (weight (at_ N r j.val) : EReal) := by
  rw [ofBits_c, hi.noise_eq r j.val j.isLt, log_noise (hi.noise_mem r j.val).1, ← EReal.coe_neg, ← EReal.coe_add, weight]

/-- The key, of positive reals. -/
theorem keyOf_coe (hi : Inputs A N a) (q : Vec Ideal S128x100000 .f32) (r : Fin 128) (j : Fin 100000) {v : ℝ} (hv : 0 < v)
    (hq : q (ix2 r j) = (v : EReal)) : keyOf q N (ix2 r j) = (Real.log (v / weight (at_ N r j.val)) : EReal) := by
  have hw := hi.weight_pos r j.val
  rw [keyOf_apply, weight_coe hi, hq, Ideal.log_coe, Ideal.log_coe, if_neg (not_le.2 hv), if_neg (not_le.2 hw), ← EReal.coe_neg, ← EReal.coe_add,
    Real.log_div hv.ne' hw.ne', sub_eq_add_neg]

/-- The search over a row of reals. -/
theorem firstBest_row (K : Vec Ideal S128x100000 .f32) (r : Fin 128) {f : ℕ → ℝ} {k : ℕ} (hK : ∀ j : Fin 100000, K (ix2 r j) = (f j.val : EReal))
    (hk : IsFirst f 100000 k) : firstBest K (ix1 r) = BitVec.ofNat 32 k := by
  rw [firstBest_eq]
  refine argReduce_row K (iotaInDim S128x100000 32 1) (constant (F := Ideal) S_ .f32 0xFF800000#32) (constantI S_ 32 0#32) reducesTo_S128x100000_S128_d1 h_S_
    (ix1 r) ofBits_ninf rfl (n := 100000) (by norm_num) (fun i hd => ?_) (fun p hp => ?_) hk
  · obtain ⟨j, rfl⟩ := of_drop_row _ r i hd
    exact ⟨j.val, j.isLt, hK j, rfl⟩
  · exact ⟨ix2 r ⟨p, hp⟩, drop_row _ r _, hK ⟨p, hp⟩, rfl⟩

/-! ## The entry at the action -/

theorem place_eq (hi : Inputs A N a) (r : Fin 128) :
    IntOp.addi (IntOp.muli (BitVec.ofNat 32 r.val) 100000#32) (a (ix1 r)) = BitVec.ofNat 32 (r.val * 100000 + (a (ix1 r)).toNat) := by
  have hr := r.isLt
  have ha := hi.act (ix1 r)
  apply BitVec.eq_of_toNat_eq
  simp only [IntOp.addi, IntOp.muli, BitVec.toNat_add, BitVec.toNat_mul, BitVec.toNat_ofNat]
  omega

theorem ofBool_true {b : Bool} (h : b = true) : BitVec.ofBool b = 1#1 := by rw [h]; rfl
theorem ofBool_false {b : Bool} (h : b = false) : BitVec.ofBool b = 0#1 := by rw [h]; rfl

theorem wrapped_eq (hi : Inputs A N a) (r : Fin 128) :
    wrapped (F := Ideal) a (ix2 r 0) = BitVec.ofNat 32 (r.val * 100000 + (a (ix1 r)).toNat) := by
  have hr := r.isLt
  have ha := hi.act (ix1 r)
  have h0 : IntOp.cmpi .slt (BitVec.ofNat 32 (r.val * 100000 + (a (ix1 r)).toNat)) 0#32 = 0#1 := by
    refine ofBool_false ?_
    rw [BitVec.slt, toInt_ofNat (show r.val * 100000 + (a (ix1 r)).toNat < 2147483648 by omega), show (0#32 : BitVec 32).toInt = 0 from by decide]
    exact decide_eq_false (by omega)
  rw [wrapped_apply, place_eq hi, h0]
  rfl

theorem inside_eq (hi : Inputs A N a) (r : Fin 128) : inside (F := Ideal) a (ix1 r) = 1#1 := by
  have hr := r.isLt
  have ha := hi.act (ix1 r)
  have h0 : IntOp.cmpi .sge (BitVec.ofNat 32 (r.val * 100000 + (a (ix1 r)).toNat)) 0#32 = 1#1 := by
    have e : (0#32 : BitVec 32).toInt ≤ (BitVec.ofNat 32 (r.val * 100000 + (a (ix1 r)).toNat)).toInt := by
      rw [toInt_ofNat (show r.val * 100000 + (a (ix1 r)).toNat < 2147483648 by omega), show (0#32 : BitVec 32).toInt = 0 from by decide]
      omega
    exact ofBool_true (decide_eq_true e)
  have h1 : IntOp.cmpi .sle (BitVec.ofNat 32 (r.val * 100000 + (a (ix1 r)).toNat)) 12799999#32 = 1#1 := by
    refine ofBool_true ?_
    rw [BitVec.sle, toInt_ofNat (show r.val * 100000 + (a (ix1 r)).toNat < 2147483648 by omega), show (12799999#32 : BitVec 32).toInt = 12799999 from by decide]
    exact decide_eq_true (by omega)
  rw [inside_apply, Finset.univ_unique, Finset.fold_singleton, show (default : Fin 1) = 0 from rfl, wrapped_eq hi, h0, h1]
  rfl

theorem flat_apply (L : Vec Ideal S128x100000 .f32) (r : Fin 128) (k : Fin 100000) (b : Fin 12800000) (hb : b.val = r.val * 100000 + k.val) :
    shapeCast S12800000 L shapeCasts_S128x100000_S12800000 (ix1 b) = L (ix2 r k) := by
  have hr := r.isLt
  have hk := k.isLt
  pointwise
  congr 1
  funext x
  apply Fin.ext
  match x with
  | ⟨0, _⟩ => simp; omega
  | ⟨1, _⟩ => simp; omega

/-- Each row's entry at its action. -/
theorem taken_eq (hi : Inputs A N a) (L : Vec Ideal S128x100000 .f32) (r : Fin 128) :
    taken L a (ix1 r) = L (ix2 r ⟨(a (ix1 r)).toNat, hi.act (ix1 r)⟩) := by
  have hr := r.isLt
  have ha := hi.act (ix1 r)
  rw [taken_apply, inside_eq hi]
  refine (Routing.gather_take1 gather_S12800000_S128x1_S128_n_0_n_n_0_1_1 rfl rfl rfl rfl
    (shapeCast S12800000 L shapeCasts_S128x100000_S12800000) (wrapped (F := Ideal) a) r
    ⟨r.val * 100000 + (a (ix1 r)).toNat, by omega⟩ (wrapped_eq hi r) (by norm_num)).trans ?_
  exact flat_apply L r ⟨(a (ix1 r)).toNat, ha⟩ _ rfl

end Cert.RefTerms

end
-- ==== Proof.MaskRead.lean ====
/-
  What the mask says of a row: every other column's guarded score stays below the greatest score.
-/
module

public import proofs.«01_k».proof.On_clear_winner
public import proofs.«01_k».proof.Proof.RefValue
public import Idealize.ShloMosaic.Lib.ReduceAll

@[expose] public section

set_option maxRecDepth 16384

noncomputable section

namespace Cert.RefTerms

open Cert.ReferenceIdeal Cert.ReferenceIdeal.Gen Cert.Rows Cert.Drawn Idealize.ShloMosaic

/-- The side conditions of the mask's operations. -/
theorem maskFacts : Cert.On_clear_winner.Facts where
  reducesTo_S128x100000_S128_d1 := by decide
  h_S_ := by decide
  bcast_S_S128 := by decide
  bcast_S128_S128x1_0 := by decide
  bcast_S128x1_S128x100000_0_1 := by decide
  bcast_S_S128x100000 := by decide
  shapeCasts_S128_S128x1 := by decide

attribute [local instance] maskFacts

/-- The weights. -/
def weights (N : Vec Ideal S128x100000 .f32) : Vec Ideal S128x100000 .f32 :=
  (addf (Host.negf (Host.log (addf N (splat (F := Ideal) 0x2EDBE6FF#32)))) (splat (F := Ideal) 0x2EDBE6FF#32) : FVec Ideal S128x100000 .f32)

/-- The scores. -/
def scores (A N : Vec Ideal S128x100000 .f32) : Vec Ideal S128x100000 .f32 := Host.divf (probs A) (weights N)

/-- A row's greatest score. -/
def greatest (K : Vec Ideal S128x100000 .f32) : Vec Ideal S128 .f32 :=
  Host.reduce (FloatOps.maximumf (F := Ideal) (φ := .f32)) K (constant (F := Ideal) S_ .f32 0xFF800000#32) reducesTo_S128x100000_S128_d1 h_S_

/-- At each entry: it is the winner's, or its guarded score is below the greatest score. -/
def clear (A N : Vec Ideal S128x100000 .f32) (F : Vec Ideal S128 .i32) (G : Vec Ideal S128 .f32) : Vec Ideal S128x100000 .i1 :=
  ori (cmpi .eq (iotaInDim S128x100000 32 1) (broadcastInDim S128x100000 ![0, 1] bcast_S128x1_S128x100000_0_1
      (shapeCast Cert.On_clear_winner.S128x1 F (by decide))))
    (cmpf .olt (Host.divf (addf (probs A) (splat (F := Ideal) 0x1E3CE508#32)) (weights N)) (spread G))

theorem mask_eq (A N : Vec Ideal S128x100000 .f32) (a : Vec Ideal S128 .i32) : (Cert.On_clear_winner.fn (F := Ideal) A N a).1
    = Host.reduce IntOp.andi (clear A N (firstBest (scores A N)) (greatest (scores A N))) (constantI S_ 1 1#1) reducesTo_S128x100000_S128_d1 h_S_ := by
  delta clear firstBest greatest scores weights splat spread probs shifted total top
  dsimp only [Cert.On_clear_winner.fn, Cert.On_clear_winner.fn_part1, Cert.On_clear_winner.fn_argmax]
  exact rfl

theorem weights_apply (N : Vec Ideal S128x100000 .f32) (r : Fin 128) (j : Fin 100000) :
    weights N (ix2 r j) = -Ideal.log (N (ix2 r j) + Ideal.ofBits .f32 0x2EDBE6FF#32) + Ideal.ofBits .f32 0x2EDBE6FF#32 := by
  pointwise [weights, splat]

theorem scores_apply (A N : Vec Ideal S128x100000 .f32) (r : Fin 128) (j : Fin 100000) :
    scores A N (ix2 r j) = Ideal.div (probs A (ix2 r j)) (weights N (ix2 r j)) := by
  pointwise [scores]

theorem clear_apply (A N : Vec Ideal S128x100000 .f32) (F : Vec Ideal S128 .i32) (G : Vec Ideal S128 .f32) (r : Fin 128) (j : Fin 100000) :
    clear A N F G (ix2 r j) = IntOp.ori (IntOp.cmpi .eq (BitVec.ofNat 32 j.val) (F (ix1 r)))
      (BitVec.ofBool (decide (Ideal.div (probs A (ix2 r j) + Ideal.ofBits .f32 0x1E3CE508#32) (weights N (ix2 r j)) < G (ix1 r)))) := by
  pointwise [clear, spread, splat]

variable {A N : Vec Ideal S128x100000 .f32} {a : Vec Ideal S128 .i32}

theorem scores_coe (hi : Inputs A N a) (r : Fin 128) (j : Fin 100000) :
    scores A N (ix2 r j) = ((prob A r j.val / weight (at_ N r j.val) : ℝ) : EReal) := by
  rw [scores_apply, probs_coe hi, weights_apply, weight_coe hi, Ideal.div_coe (hi.weight_pos r j.val).ne', ← EReal.coe_mul, mul_one_div]

theorem ori_decide {x : BitVec 1} {P : Prop} [Decidable P] (hx : x = 0#1) (h : IntOp.ori x (BitVec.ofBool (decide P)) = 1#1) : P := by
  by_contra hP
  rw [hx, decide_eq_false hP] at h
  exact absurd h (by decide)

/-- On a row the mask selects, whose first greatest score is at `k`, the guarded score of every other column is below it. -/
theorem clear_row (hi : Inputs A N a) (r : Fin 128) (h : (Cert.On_clear_winner.fn (F := Ideal) A N a).1 (ix1 r) = 1#1) {k : ℕ}
    (hk : IsFirst (fun j => prob A r j / weight (at_ N r j)) 100000 k) (j : ℕ) (hj : j < 100000) (hne : j ≠ k) :
    (prob A r j + slack) / weight (at_ N r j) < prob A r k / weight (at_ N r k) := by
  rw [mask_eq] at h
  have hc := Host.reduce_andi_eq_one _ _ _ _ (ix1 r) h (ix2 r ⟨j, hj⟩) (drop_row _ r _)
  have hkn := hk.1
  rw [clear_apply, firstBest_row _ r (scores_coe hi r) hk, greatest, greatest_row _ r (scores_coe hi r) hk, probs_coe hi, weights_apply, weight_coe hi,
    ofBits_slack, ← EReal.coe_add, Ideal.div_coe (hi.weight_pos r j).ne', ← EReal.coe_mul, mul_one_div] at hc
  have h0 : IntOp.cmpi .eq (BitVec.ofNat 32 j) (BitVec.ofNat 32 k) = 0#1 := by
    refine ofBool_false (beq_eq_false_iff_ne.2 fun e => hne ?_)
    have := congrArg BitVec.toNat e
    simp only [BitVec.toNat_ofNat] at this
    omega
  exact EReal.coe_lt_coe_iff.1 (ori_decide h0 hc)

end Cert.RefTerms

end
-- ==== Proof.Equation.lean ====
/-
  The equation: what the kernel leaves is what the references compute.
-/
module

public import proofs.«01_k».proof.Proof.KernelValue
public import proofs.«01_k».proof.Proof.MaskRead

@[expose] public section

set_option maxRecDepth 16384

noncomputable section

namespace Cert.Equation

open Cert.KernelIdeal Cert.KernelIdeal.Gen Cert.Rows Cert.Drawn Cert.RefTerms Cert.IdealBody Idealize.ShloMosaic

attribute [local instance] maskFacts

variable {A N : Vec Ideal S128x100000 .f32} {a : Vec Ideal S128 .i32}

/-- A column's share over its weight is its score over the row's mass. -/
theorem prob_div (A N : Vec Ideal S128x100000 .f32) (r : Fin 128) (j : ℕ) : prob A r j / weight (at_ N r j) = score A N r j / mass A r := by
  rw [prob, score, div_right_comm]

/-- The winner by score is the winner by share over weight. -/
theorem winner_prob (r : Fin 128) : IsFirst (fun j => prob A r j / weight (at_ N r j)) 100000 (winner A N r) := by
  refine (winner_spec A N r).congr fun i _ j _ => ?_
  simp only [prob_div]
  exact (div_lt_div_iff_of_pos_right (mass_pos A r)).symm

/-- And by the logarithm of that. -/
theorem winner_log (hi : Inputs A N a) (r : Fin 128) : IsFirst (fun j => Real.log (prob A r j / weight (at_ N r j))) 100000 (winner A N r) :=
  (winner_prob r).congr fun i _ j _ =>
    (Real.log_lt_log_iff (div_pos (prob_pos A r i) (hi.weight_pos r i)) (div_pos (prob_pos A r j) (hi.weight_pos r j))).symm

/-- On a row the mask selects the guard does not change the winner. -/
theorem winner_guarded (hi : Inputs A N a) (r : Fin 128)
    (h : (Cert.On_clear_winner.fn (F := Ideal) A N a).1 (ix1 r) = 1#1) :
    IsFirst (fun j => Real.log ((prob A r j + slack) / weight (at_ N r j))) 100000 (winner A N r) := by
  have hk := winner_prob (A := A) (N := N) r
  have hp : ∀ j, 0 < (prob A r j + slack) / weight (at_ N r j) := fun j =>
    div_pos (add_pos (prob_pos A r j) slack_pos) (hi.weight_pos r j)
  have hlt : ∀ j < 100000, j ≠ winner A N r →
      Real.log ((prob A r j + slack) / weight (at_ N r j)) < Real.log ((prob A r (winner A N r) + slack) / weight (at_ N r (winner A N r))) := fun j hj hne =>
    Real.log_lt_log (hp j) ((clear_row hi r h hk j hj hne).trans
      (div_lt_div_of_pos_right (lt_add_of_pos_right _ slack_pos) (hi.weight_pos r _)))
  refine ⟨hk.1, fun j hj => ?_, fun j hj => hlt j (hj.trans hk.1) hj.ne⟩
  by_cases hne : j = winner A N r
  · rw [hne]
  · exact (hlt j hj hne).le

/-- Every index of a vector is a row. -/
theorem row_eq (i : S128.Idx) : ∃ r : Fin 128, i = ix1 r := ⟨i 0, by funext x; match x with | ⟨0, _⟩ => rfl⟩

/-- The sampled actions, with no guard in the logarithm. -/
theorem sampled_unguarded (hi : Inputs A N a) :
    firstBest (keyOf (probs A) N) = shapeCast S128 (sampled A N) shapeCasts_S128x1_S128 := by
  funext i
  obtain ⟨r, rfl⟩ := row_eq i
  rw [sampled_flat]
  exact firstBest_row _ r (fun j => keyOf_coe hi _ r j (prob_pos A r j.val) (probs_coe hi r j)) (winner_log hi r)

/-- The sampled actions on a row the mask selects, as reference.py computes them. -/
theorem sampled_guarded (hi : Inputs A N a) (i : S128.Idx) (h : (Cert.On_clear_winner.fn (F := Ideal) A N a).1 i = 1#1) :
    firstBest (keyOf (addf (probs A) (splat (F := Ideal) 0x1E3CE508#32) : FVec Ideal S128x100000 .f32) N) i
      = shapeCast S128 (sampled A N) shapeCasts_S128x1_S128 i := by
  obtain ⟨r, rfl⟩ := row_eq i
  rw [sampled_flat]
  refine firstBest_row _ r (fun j => keyOf_coe hi _ r j (add_pos (prob_pos A r j.val) slack_pos) ?_) (winner_guarded hi r h)
  refine (congrArg₂ (fun x y : EReal => x + y) (probs_coe hi r j) ((splat_apply r j _).trans ofBits_slack)).trans ?_
  exact (EReal.coe_add _ _).symm

/-- The logarithms of the softmax at the actions given. -/
theorem selected_eq (hi : Inputs A N a) :
    taken (logProbs A) a = shapeCast S128 (selected A a) shapeCasts_S128x1_S128 := by
  funext i
  obtain ⟨r, rfl⟩ := row_eq i
  rw [selected_flat, taken_eq hi, logProbs_coe hi]
  rfl

end Cert.Equation

end
-- ==== Proof.lean ====
/-
  The certificate's claim, assembled from the runs of the four programs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnguardedIdeal
public import proofs.«01_k».proof.Proof.IdealFrame
public import proofs.«01_k».proof.Proof.RoundedFrame
public import proofs.«01_k».proof.Proof.RefRun
public import proofs.«01_k».proof.Proof.UnguardedRun
public import proofs.«01_k».proof.Proof.PreRead
public import proofs.«01_k».proof.Proof.Equation
public import Idealize.ShloMosaic.Adequacy
public import Idealize.ShloMosaic.Init

@[expose] public section

noncomputable section

namespace Cert.Proof

open Idealize.ShloMosaic Idealize.SL.Sem

/-- The rounded kernel's run leaves its arguments and ends quiescent. -/
theorem frame_kernel : quiescent_Kernel (hKernel := Cert.Kernel.Gen.facts) := fun m g _ => Cert.RoundedBody.run_frame m g

/-- The idealized kernel's run leaves its arguments and ends quiescent. -/
theorem frame_kernelIdeal : quiescent_KernelIdeal (hKernelIdeal := Cert.KernelIdeal.Gen.facts) :=
  fun m g _ => Cert.IdealBody.run_frame m g

/-- The reference's run leaves its arguments and ends quiescent. -/
theorem frame_reference : quiescent_ReferenceIdeal (hReferenceIdeal := Cert.ReferenceIdeal.Gen.facts) := fun m g _ =>
  (θ_run _ _ _).mono (fun _ h => ⟨fun c => (h.1 c).2.2, h.2⟩) (Cert.ReferenceIdeal.Run.run m g)

/-- The unguarded reference's run leaves its arguments and ends quiescent. -/
theorem frame_unguarded : quiescent_UnguardedIdeal (hUnguardedIdeal := Cert.UnguardedIdeal.Gen.facts) := fun m g _ =>
  (θ_run _ _ _).mono (fun _ h => ⟨fun c => (h.1 c).2.2, h.2⟩) (Cert.UnguardedIdeal.Run.run m g)

/-- Under the precondition the kernel's arguments are as they are drawn, on every device. -/
theorem drawn (m : (ℓ : Loc Cert.KernelIdeal.nD Cert.KernelIdeal.τ Cert.KernelIdeal.sig) → Buf (Elt Ideal) ℓ)
    (h : Pre_KernelIdeal_as_drawn (hPre_as_drawn := Cert.Drawn.preFacts) m) (c : Dev Cert.KernelIdeal.nD) :
    Cert.Drawn.Inputs (Cert.IdealBody.argA m c) (Cert.IdealBody.argN m c) (Cert.IdealBody.argI m c) :=
  Cert.Drawn.inputs_of_pre (fun i => congrFun (h c).1 i) (fun i => congrFun (h c).2.1 i) (fun i => congrFun (h c).2.2 i)

/-- Kernel and unguarded reference end with equal results, on every row. -/
theorem equal_unguarded : algebraic_KernelIdeal_UnguardedIdeal_pre_as_drawn (hKernelIdeal := Cert.KernelIdeal.Gen.facts)
    (hUnguardedIdeal := Cert.UnguardedIdeal.Gen.facts) (hPre_as_drawn := Cert.Drawn.preFacts) := fun m g m' g' hp ha =>
  ⟨_, _, Cert.IdealBody.run_drawn m g (drawn m hp),
    (θ_run _ _ _).mono (fun _ h c => ⟨(h.1 c).1.trans (by
        rw [(ha c).1, (ha c).2.1]; exact Cert.Equation.sampled_unguarded (drawn m hp c)),
      (h.1 c).2.1.trans (by rw [(ha c).1, (ha c).2.2]; exact Cert.Equation.selected_eq (drawn m hp c)), (h.1 c).2.2⟩)
    (Cert.UnguardedIdeal.Run.run m' g')⟩

/-- Kernel and reference end with equal results, the first on the rows with a clear winner, the second on every row. -/
theorem equal_reference : algebraic_KernelIdeal_ReferenceIdeal_on_clear_winner_pre_as_drawn (hKernelIdeal := Cert.KernelIdeal.Gen.facts)
    (hReferenceIdeal := Cert.ReferenceIdeal.Gen.facts) (hPre_as_drawn := Cert.Drawn.preFacts)
    (hOn_clear_winner := Cert.RefTerms.maskFacts) := fun m g m' g' hp ha =>
  ⟨_, _, (θ_run _ _ _).mono (fun _ h c => ⟨fun i _ => congrFun (h c).1 i, fun i _ => congrFun (h c).2.1 i, (h c).2.2⟩)
      (Cert.IdealBody.run_drawn m g (drawn m hp)),
    (θ_run _ _ _).mono (fun _ h c => ⟨fun i hi => (congrFun (h.1 c).1 i).trans (by
        rw [(ha c).1, (ha c).2.1]; exact Cert.Equation.sampled_guarded (drawn m hp c) i hi),
      fun i _ => (congrFun (h.1 c).2.1 i).trans (by
        rw [(ha c).1, (ha c).2.2]; exact congrFun (Cert.Equation.selected_eq (drawn m hp c)) i), (h.1 c).2.2⟩)
    (Cert.ReferenceIdeal.Run.run m' g')⟩

/-- The certificate's claim. -/
theorem claim : Cert.Claim := ⟨Cert.Kernel.Gen.facts, Cert.KernelIdeal.Gen.facts, Cert.ReferenceIdeal.Gen.facts,
  Cert.UnguardedIdeal.Gen.facts, Cert.Drawn.preFacts, Cert.RefTerms.maskFacts, frame_kernel, frame_kernelIdeal,
  fun m g _ => frame_kernelIdeal m g trivial, frame_reference, fun m g _ => frame_reference m g trivial,
  frame_unguarded, fun m g _ => frame_unguarded m g trivial, trivial, equal_unguarded, equal_reference⟩

end Cert.Proof

end
